-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v311) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x128 : Shape := ⟨2, ![2048, 128]⟩
abbrev S6144x128 : Shape := ⟨2, ![6144, 128]⟩
abbrev S4096x128 : Shape := ⟨2, ![4096, 128]⟩
abbrev S256 : Shape := ⟨1, ![256]⟩
abbrev S2048x256 : Shape := ⟨2, ![2048, 256]⟩
abbrev S6144x256 : Shape := ⟨2, ![6144, 256]⟩
abbrev S4096x256 : Shape := ⟨2, ![4096, 256]⟩
abbrev S2048x6144 : Shape := ⟨2, ![2048, 6144]⟩
abbrev S6144x4096 : Shape := ⟨2, ![6144, 4096]⟩
abbrev S2x3x128x128 : Shape := ⟨4, ![2, 3, 128, 128]⟩
abbrev S2x128x128 : Shape := ⟨3, ![2, 128, 128]⟩
abbrev S2x2x128x128 : Shape := ⟨4, ![2, 2, 128, 128]⟩
abbrev S128x9 : Shape := ⟨2, ![128, 9]⟩
abbrev S9 : Shape := ⟨1, ![9]⟩
abbrev S_ : Shape := ⟨0, ![]⟩
abbrev S1x2x128x128 : Shape := ⟨4, ![1, 2, 128, 128]⟩
abbrev S1x128x128 : Shape := ⟨3, ![1, 128, 128]⟩
abbrev S128x128 : Shape := ⟨2, ![128, 128]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S6144x128 : S_.BroadcastsInDim S6144x128 (![] : Fin 0 → Fin S6144x128.rank)
  reducesTo_S6144x128_S_d0_1 : S6144x128.ReducesTo [0, 1] S_
  bcast_S_S4096x128 : S_.BroadcastsInDim S4096x128 (![] : Fin 0 → Fin S4096x128.rank)
  reducesTo_S4096x128_S_d0_1 : S4096x128.ReducesTo [0, 1] S_
  bcast_S_S256 : S_.BroadcastsInDim S256 (![] : Fin 0 → Fin S256.rank)
  reducesTo_S256_S_d0 : S256.ReducesTo [0] S_
  bcast_S_S2048x256 : S_.BroadcastsInDim S2048x256 (![] : Fin 0 → Fin S2048x256.rank)
  reducesTo_S2048x256_S_d0_1 : S2048x256.ReducesTo [0, 1] S_
  bcast_S_S6144x256 : S_.BroadcastsInDim S6144x256 (![] : Fin 0 → Fin S6144x256.rank)
  reducesTo_S6144x256_S_d0_1 : S6144x256.ReducesTo [0, 1] S_
  bcast_S_S2048x6144 : S_.BroadcastsInDim S2048x6144 (![] : Fin 0 → Fin S2048x6144.rank)
  reducesTo_S2048x6144_S_d0_1 : S2048x6144.ReducesTo [0, 1] S_
  bcast_S_S6144x4096 : S_.BroadcastsInDim S6144x4096 (![] : Fin 0 → Fin S6144x4096.rank)
  reducesTo_S6144x4096_S_d0_1 : S6144x4096.ReducesTo [0, 1] S_
  slices_S2x3x128x128_S2x2x128x128_0_1_0_0 : S2x3x128x128.Slices ![0, 1, 0, 0] S2x2x128x128
  bcast_S_S2x2x128x128 : S_.BroadcastsInDim S2x2x128x128 (![] : Fin 0 → Fin S2x2x128x128.rank)
  reducesTo_S2x2x128x128_S_d0_1_2_3 : S2x2x128x128.ReducesTo [0, 1, 2, 3] S_
  bcast_S_S2x128x128 : S_.BroadcastsInDim S2x128x128 (![] : Fin 0 → Fin S2x128x128.rank)
  reducesTo_S2x128x128_S_d0_1_2 : S2x128x128.ReducesTo [0, 1, 2] S_
  slices_S2x2x128x128_S1x2x128x128_0_0_0_0 : S2x2x128x128.Slices ![0, 0, 0, 0] S1x2x128x128
  shapeCasts_S1x2x128x128_S2x128x128 : S1x2x128x128.ShapeCasts S2x128x128
  slices_S2x128x128_S1x128x128_0_0_0 : S2x128x128.Slices ![0, 0, 0] S1x128x128
  shapeCasts_S1x128x128_S128x128 : S1x128x128.ShapeCasts S128x128
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_v85 : IVec S_ 1) (main_v87 : FVec F S128x128 .f32) : IVec S_ 1 :=
  let main_v88 : FVec F S128x128 .f32 := subf main_v87 main_v87
  let main_cst_30 : FVec F S_ .f32 := constant S_ .f32 0x00000000#32
  let main_v89 : FVec F S128x128 .f32 := broadcastInDim S128x128 ![] bcast_S_S128x128 main_cst_30
  let main_v90 : IVec S128x128 1 := cmpf .oeq main_v88 main_v89
  let main_c_31 : IVec S_ 1 := constantI S_ 1 1#1
  let main_v91 : IVec S_ 1 := (fun x v => Host.reduce IntOp.andi x v reducesTo_S128x128_S_d0_1 h_S_) main_v90 main_c_31
  let main_v92 : IVec S_ 1 := andi main_v85 main_v91
  main_v92

def fn_part4 {F : FTy → Type} [FloatOps F] (main_arg19 : FVec F S2x2x128x128 .f32) (main_arg20 : FVec F S2x128x128 .f32) (main_arg21 : FVec F S2x128x128 .f32) (main_v64 : IVec S_ 1) (main_v67 : FVec F S2x128x128 .f32) (main_v68 : FVec F S2x128x128 .f32) : IVec S_ 1 :=
  let main_v69 : IVec S2x128x128 1 := cmpf .oeq main_v67 main_v68
  let main_c_25 : IVec S_ 1 := constantI S_ 1 1#1
  let main_v70 : IVec S_ 1 := (fun x v => Host.reduce IntOp.andi x v reducesTo_S2x128x128_S_d0_1_2 h_S_) main_v69 main_c_25
  let main_v71 : IVec S_ 1 := andi main_v64 main_v70
  let main_v72 : FVec F S1x2x128x128 .f32 := (extractStridedSlice S1x2x128x128 ![0, 0, 0, 0] · slices_S2x2x128x128_S1x2x128x128_0_0_0_0) main_arg19
  let main_v73 : FVec F S2x128x128 .f32 := shapeCast S2x128x128 main_v72 shapeCasts_S1x2x128x128_S2x128x128
  let main_v74 : FVec F S2x128x128 .f32 := subf main_v73 main_v73
  let main_cst_26 : FVec F S_ .f32 := constant S_ .f32 0x00000000#32
  let main_v75 : FVec F S2x128x128 .f32 := broadcastInDim S2x128x128 ![] bcast_S_S2x128x128 main_cst_26
  let main_v76 : IVec S2x128x128 1 := cmpf .oeq main_v74 main_v75
  let main_c_27 : IVec S_ 1 := constantI S_ 1 1#1
  let main_v77 : IVec S_ 1 := (fun x v => Host.reduce IntOp.andi x v reducesTo_S2x128x128_S_d0_1_2 h_S_) main_v76 main_c_27
  let main_v78 : IVec S_ 1 := andi main_v71 main_v77
  let main_v79 : FVec F S1x128x128 .f32 := (extractStridedSlice S1x128x128 ![0, 0, 0] · slices_S2x128x128_S1x128x128_0_0_0) main_arg20
  let main_v80 : FVec F S128x128 .f32 := shapeCast S128x128 main_v79 shapeCasts_S1x128x128_S128x128
  let main_v81 : FVec F S128x128 .f32 := subf main_v80 main_v80
  let main_cst_28 : FVec F S_ .f32 := constant S_ .f32 0x00000000#32
  let main_v82 : FVec F S128x128 .f32 := broadcastInDim S128x128 ![] bcast_S_S128x128 main_cst_28
  let main_v83 : IVec S128x128 1 := cmpf .oeq main_v81 main_v82
  let main_c_29 : IVec S_ 1 := constantI S_ 1 1#1
  let main_v84 : IVec S_ 1 := (fun x v => Host.reduce IntOp.andi x v reducesTo_S128x128_S_d0_1 h_S_) main_v83 main_c_29
  let main_v85 : IVec S_ 1 := andi main_v78 main_v84
  let main_v86 : FVec F S1x128x128 .f32 := (extractStridedSlice S1x128x128 ![0, 0, 0] · slices_S2x128x128_S1x128x128_0_0_0) main_arg21
  let main_v87 : FVec F S128x128 .f32 := shapeCast S128x128 main_v86 shapeCasts_S1x128x128_S128x128
  fn_part5 (F := F) main_v85 main_v87

def fn_part3 {F : FTy → Type} [FloatOps F] (main_arg15 : FVec F S2x3x128x128 .f32) (main_arg16 : FVec F S2x128x128 .f32) (main_arg18 : FVec F S2x2x128x128 .f32) (main_arg19 : FVec F S2x2x128x128 .f32) (main_arg20 : FVec F S2x128x128 .f32) (main_arg21 : FVec F S2x128x128 .f32) (main_v48 : IVec S_ 1) (main_v49 : FVec F S6144x4096 .f32) (main_v50 : FVec F S6144x4096 .f32) : IVec S_ 1 :=
  let main_v51 : IVec S6144x4096 1 := cmpf .oeq main_v49 main_v50
  let main_c_19 : IVec S_ 1 := constantI S_ 1 1#1
  let main_v52 : IVec S_ 1 := (fun x v => Host.reduce IntOp.andi x v reducesTo_S6144x4096_S_d0_1 h_S_) main_v51 main_c_19
  let main_v53 : IVec S_ 1 := andi main_v48 main_v52
  let main_v54 : FVec F S2x2x128x128 .f32 := (extractStridedSlice S2x2x128x128 ![0, 1, 0, 0] · slices_S2x3x128x128_S2x2x128x128_0_1_0_0) main_arg15
  let main_v55 : FVec F S2x2x128x128 .f32 := subf main_v54 main_v54
  let main_cst_20 : FVec F S_ .f32 := constant S_ .f32 0x00000000#32
  let main_v56 : FVec F S2x2x128x128 .f32 := broadcastInDim S2x2x128x128 ![] bcast_S_S2x2x128x128 main_cst_20
  let main_v57 : IVec S2x2x128x128 1 := cmpf .oeq main_v55 main_v56
  let main_c_21 : IVec S_ 1 := constantI S_ 1 1#1
  let main_v58 : IVec S_ 1 := (fun x v => Host.reduce IntOp.andi x v reducesTo_S2x2x128x128_S_d0_1_2_3 h_S_) main_v57 main_c_21
  let main_v59 : IVec S_ 1 := andi main_v53 main_v58
  let main_v60 : FVec F S2x128x128 .f32 := subf main_arg16 main_arg16
  let main_cst_22 : FVec F S_ .f32 := constant S_ .f32 0x00000000#32
  let main_v61 : FVec F S2x128x128 .f32 := broadcastInDim S2x128x128 ![] bcast_S_S2x128x128 main_cst_22
  let main_v62 : IVec S2x128x128 1 := cmpf .oeq main_v60 main_v61
  let main_c_23 : IVec S_ 1 := constantI S_ 1 1#1
  let main_v63 : IVec S_ 1 := (fun x v => Host.reduce IntOp.andi x v reducesTo_S2x128x128_S_d0_1_2 h_S_) main_v62 main_c_23
  let main_v64 : IVec S_ 1 := andi main_v59 main_v63
  let main_v65 : FVec F S1x2x128x128 .f32 := (extractStridedSlice S1x2x128x128 ![0, 0, 0, 0] · slices_S2x2x128x128_S1x2x128x128_0_0_0_0) main_arg18
  let main_v66 : FVec F S2x128x128 .f32 := shapeCast S2x128x128 main_v65 shapeCasts_S1x2x128x128_S2x128x128
  let main_v67 : FVec F S2x128x128 .f32 := subf main_v66 main_v66
  let main_cst_24 : FVec F S_ .f32 := constant S_ .f32 0x00000000#32
  let main_v68 : FVec F S2x128x128 .f32 := broadcastInDim S2x128x128 ![] bcast_S_S2x128x128 main_cst_24
  fn_part4 (F := F) main_arg19 main_arg20 main_arg21 main_v64 main_v67 main_v68

def fn_part2 {F : FTy → Type} [FloatOps F] (main_arg7 : FVec F S256 .f32) (main_arg8 : FVec F S6144x256 .f32) (main_arg13 : FVec F S2048x6144 .f32) (main_arg14 : FVec F S6144x4096 .f32) (main_arg15 : FVec F S2x3x128x128 .f32) (main_arg16 : FVec F S2x128x128 .f32) (main_arg18 : FVec F S2x2x128x128 .f32) (main_arg19 : FVec F S2x2x128x128 .f32) (main_arg20 : FVec F S2x128x128 .f32) (main_arg21 : FVec F S2x128x128 .f32) (main_v33 : IVec S_ 1) : IVec S_ 1 :=
  let main_v34 : FVec F S256 .f32 := subf main_arg7 main_arg7
  let main_cst_12 : FVec F S_ .f32 := constant S_ .f32 0x00000000#32
  let main_v35 : FVec F S256 .f32 := broadcastInDim S256 ![] bcast_S_S256 main_cst_12
  let main_v36 : IVec S256 1 := cmpf .oeq main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S6144x256 .f32 := subf main_arg8 main_arg8
  let main_cst_14 : FVec F S_ .f32 := constant S_ .f32 0x00000000#32
  let main_v40 : FVec F S6144x256 .f32 := broadcastInDim S6144x256 ![] bcast_S_S6144x256 main_cst_14
  let main_v41 : IVec S6144x256 1 := cmpf .oeq main_v39 main_v40
  let main_c_15 : IVec S_ 1 := constantI S_ 1 1#1
  let main_v42 : IVec S_ 1 := (fun x v => Host.reduce IntOp.andi x v reducesTo_S6144x256_S_d0_1 h_S_) main_v41 main_c_15
  let main_v43 : IVec S_ 1 := andi main_v38 main_v42
  let main_v44 : FVec F S2048x6144 .f32 := subf main_arg13 main_arg13
  let main_cst_16 : FVec F S_ .f32 := constant S_ .f32 0x00000000#32
  let main_v45 : FVec F S2048x6144 .f32 := broadcastInDim S2048x6144 ![] bcast_S_S2048x6144 main_cst_16
  let main_v46 : IVec S2048x6144 1 := cmpf .oeq main_v44 main_v45
  let main_c_17 : IVec S_ 1 := constantI S_ 1 1#1
  let main_v47 : IVec S_ 1 := (fun x v => Host.reduce IntOp.andi x v reducesTo_S2048x6144_S_d0_1 h_S_) main_v46 main_c_17
  let main_v48 : IVec S_ 1 := andi main_v43 main_v47
  let main_v49 : FVec F S6144x4096 .f32 := subf main_arg14 main_arg14
  let main_cst_18 : FVec F S_ .f32 := constant S_ .f32 0x00000000#32
  let main_v50 : FVec F S6144x4096 .f32 := broadcastInDim S6144x4096 ![] bcast_S_S6144x4096 main_cst_18
  fn_part3 (F := F) main_arg15 main_arg16 main_arg18 main_arg19 main_arg20 main_arg21 main_v48 main_v49 main_v50

def fn_part1 {F : FTy → Type} [FloatOps F] (main_arg4 : FVec F S2048x256 .f32) (main_arg5 : FVec F S256 .f32) (main_arg6 : FVec F S6144x256 .f32) (main_arg7 : FVec F S256 .f32) (main_arg8 : FVec F S6144x256 .f32) (main_arg13 : FVec F S2048x6144 .f32) (main_arg14 : FVec F S6144x4096 .f32) (main_arg15 : FVec F S2x3x128x128 .f32) (main_arg16 : FVec F S2x128x128 .f32) (main_arg18 : FVec F S2x2x128x128 .f32) (main_arg19 : FVec F S2x2x128x128 .f32) (main_arg20 : FVec F S2x128x128 .f32) (main_arg21 : FVec F S2x128x128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S2048x256 .f32 := subf main_arg4 main_arg4
  let main_cst_6 : FVec F S_ .f32 := constant S_ .f32 0x00000000#32
  let main_v20 : FVec F S2048x256 .f32 := broadcastInDim S2048x256 ![] bcast_S_S2048x256 main_cst_6
  let main_v21 : IVec S2048x256 1 := cmpf .oeq main_v19 main_v20
  let main_c_7 : IVec S_ 1 := constantI S_ 1 1#1
  let main_v22 : IVec S_ 1 := (fun x v => Host.reduce IntOp.andi x v reducesTo_S2048x256_S_d0_1 h_S_) main_v21 main_c_7
  let main_v23 : IVec S_ 1 := andi main_v18 main_v22
  let main_v24 : FVec F S256 .f32 := subf main_arg5 main_arg5
  let main_cst_8 : FVec F S_ .f32 := constant S_ .f32 0x00000000#32
  let main_v25 : FVec F S256 .f32 := broadcastInDim S256 ![] bcast_S_S256 main_cst_8
  let main_v26 : IVec S256 1 := cmpf .oeq main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S6144x256 .f32 := subf main_arg6 main_arg6
  let main_cst_10 : FVec F S_ .f32 := constant S_ .f32 0x00000000#32
  let main_v30 : FVec F S6144x256 .f32 := broadcastInDim S6144x256 ![] bcast_S_S6144x256 main_cst_10
  let main_v31 : IVec S6144x256 1 := cmpf .oeq main_v29 main_v30
  let main_c_11 : IVec S_ 1 := constantI S_ 1 1#1
  let main_v32 : IVec S_ 1 := (fun x v => Host.reduce IntOp.andi x v reducesTo_S6144x256_S_d0_1 h_S_) main_v31 main_c_11
  let main_v33 : IVec S_ 1 := andi main_v28 main_v32
  fn_part2 (F := F) main_arg7 main_arg8 main_arg13 main_arg14 main_arg15 main_arg16 main_arg18 main_arg19 main_arg20 main_arg21 main_v33

def fn {F : FTy → Type} [FloatOps F] (main_arg0 : FVec F S2048x128 .f32) (main_arg1 : FVec F S6144x128 .f32) (main_arg2 : FVec F S4096x128 .f32) (main_arg3 : FVec F S256 .f32) (main_arg4 : FVec F S2048x256 .f32) (main_arg5 : FVec F S256 .f32) (main_arg6 : FVec F S6144x256 .f32) (main_arg7 : FVec F S256 .f32) (main_arg8 : FVec F S6144x256 .f32) (main_arg9 : FVec F S256 .f32) (main_arg10 : FVec F S4096x256 .f32) (main_arg11 : FVec F S256 .f32) (main_arg12 : FVec F S4096x256 .f32) (main_arg13 : FVec F S2048x6144 .f32) (main_arg14 : FVec F S6144x4096 .f32) (main_arg15 : FVec F S2x3x128x128 .f32) (main_arg16 : FVec F S2x128x128 .f32) (main_arg17 : FVec F S2x128x128 .f32) (main_arg18 : FVec F S2x2x128x128 .f32) (main_arg19 : FVec F S2x2x128x128 .f32) (main_arg20 : FVec F S2x128x128 .f32) (main_arg21 : FVec F S2x128x128 .f32) (main_arg22 : FVec F S2x128x128 .f32) (main_arg23 : FVec F S2x2x128x128 .f32) (main_arg24 : FVec F S2x2x128x128 .f32) (main_arg25 : FVec F S2x128x128 .f32) (main_arg26 : FVec F S128x9 .f32) (main_arg27 : FVec F S9 .f32) : IVec S_ 1 :=
  let main_v0 : FVec F S2048x128 .f32 := subf main_arg0 main_arg0
  let main_cst : FVec F S_ .f32 := constant S_ .f32 0x00000000#32
  let main_v1 : FVec F S2048x128 .f32 := broadcastInDim S2048x128 ![] bcast_S_S2048x128 main_cst
  let main_v2 : IVec S2048x128 1 := cmpf .oeq main_v0 main_v1
  let main_c : IVec S_ 1 := constantI S_ 1 1#1
  let main_v3 : IVec S_ 1 := (fun x v => Host.reduce IntOp.andi x v reducesTo_S2048x128_S_d0_1 h_S_) main_v2 main_c
  let main_v4 : FVec F S6144x128 .f32 := subf main_arg1 main_arg1
  let main_cst_0 : FVec F S_ .f32 := constant S_ .f32 0x00000000#32
  let main_v5 : FVec F S6144x128 .f32 := broadcastInDim S6144x128 ![] bcast_S_S6144x128 main_cst_0
  let main_v6 : IVec S6144x128 1 := cmpf .oeq main_v4 main_v5
  let main_c_1 : IVec S_ 1 := constantI S_ 1 1#1
  let main_v7 : IVec S_ 1 := (fun x v => Host.reduce IntOp.andi x v reducesTo_S6144x128_S_d0_1 h_S_) main_v6 main_c_1
  let main_v8 : IVec S_ 1 := andi main_v3 main_v7
  let main_v9 : FVec F S4096x128 .f32 := subf main_arg2 main_arg2
  let main_cst_2 : FVec F S_ .f32 := constant S_ .f32 0x00000000#32
  let main_v10 : FVec F S4096x128 .f32 := broadcastInDim S4096x128 ![] bcast_S_S4096x128 main_cst_2
  let main_v11 : IVec S4096x128 1 := cmpf .oeq main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S256 .f32 := subf main_arg3 main_arg3
  let main_cst_4 : FVec F S_ .f32 := constant S_ .f32 0x00000000#32
  let main_v15 : FVec F S256 .f32 := broadcastInDim S256 ![] bcast_S_S256 main_cst_4
  let main_v16 : IVec S256 1 := cmpf .oeq main_v14 main_v15
  fn_part1 (F := F) main_arg4 main_arg5 main_arg6 main_arg7 main_arg8 main_arg13 main_arg14 main_arg15 main_arg16 main_arg18 main_arg19 main_arg20 main_arg21 main_v13 main_v16
-- ==== Kernel.lean ====
abbrev S2048x128 : Shape := ⟨2, ![2048, 128]⟩
abbrev S6144x128 : Shape := ⟨2, ![6144, 128]⟩
abbrev S4096x128 : Shape := ⟨2, ![4096, 128]⟩
abbrev S256 : Shape := ⟨1, ![256]⟩
abbrev S2048x256 : Shape := ⟨2, ![2048, 256]⟩
abbrev S6144x256 : Shape := ⟨2, ![6144, 256]⟩
abbrev S4096x256 : Shape := ⟨2, ![4096, 256]⟩
abbrev S2048x6144 : Shape := ⟨2, ![2048, 6144]⟩
abbrev S6144x4096 : Shape := ⟨2, ![6144, 4096]⟩
abbrev S2x3x128x128 : Shape := ⟨4, ![2, 3, 128, 128]⟩
abbrev S2x128x128 : Shape := ⟨3, ![2, 128, 128]⟩
abbrev S2x2x128x128 : Shape := ⟨4, ![2, 2, 128, 128]⟩
abbrev S128x9 : Shape := ⟨2, ![128, 9]⟩
abbrev S9 : Shape := ⟨1, ![9]⟩
abbrev S1x256 : Shape := ⟨2, ![1, 256]⟩
abbrev S3x256 : Shape := ⟨2, ![3, 256]⟩
abbrev S3x256x1 : Shape := ⟨3, ![3, 256, 1]⟩
abbrev S2048x9 : Shape := ⟨2, ![2048, 9]⟩
abbrev S256x128 : Shape := ⟨2, ![256, 128]⟩
abbrev S512x128 : Shape := ⟨2, ![512, 128]⟩
abbrev S256x6144 : Shape := ⟨2, ![256, 6144]⟩
abbrev S256x4096 : Shape := ⟨2, ![256, 4096]⟩
abbrev S2 : Shape := ⟨1, ![2]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S1x256x1 : Shape := ⟨3, ![1, 256, 1]⟩
abbrev S256x1 : Shape := ⟨2, ![256, 1]⟩
abbrev S1x1x128x128 : Shape := ⟨4, ![1, 1, 128, 128]⟩
abbrev S1x9 : Shape := ⟨2, ![1, 9]⟩

abbrev nBuf : Space → Nat
  | .hbm => 34
  | .vmem => 30
  | .smem => 0
  | _ => 0

abbrev bufTy : (tb : Table) → Fin (tcTables nBuf tb) → BufTy
  | .hbm, ⟨0, _⟩ => ⟨S2048x128, .f32⟩
  | .hbm, ⟨1, _⟩ => ⟨S6144x128, .f32⟩
  | .hbm, ⟨2, _⟩ => ⟨S4096x128, .f32⟩
  | .hbm, ⟨3, _⟩ => ⟨S256, .f32⟩
  | .hbm, ⟨4, _⟩ => ⟨S2048x256, .f32⟩
  | .hbm, ⟨5, _⟩ => ⟨S256, .f32⟩
  | .hbm, ⟨6, _⟩ => ⟨S6144x256, .f32⟩
  | .hbm, ⟨7, _⟩ => ⟨S256, .f32⟩
  | .hbm, ⟨8, _⟩ => ⟨S6144x256, .f32⟩
  | .hbm, ⟨9, _⟩ => ⟨S256, .f32⟩
  | .hbm, ⟨10, _⟩ => ⟨S4096x256, .f32⟩
  | .hbm, ⟨11, _⟩ => ⟨S256, .f32⟩
  | .hbm, ⟨12, _⟩ => ⟨S4096x256, .f32⟩
  | .hbm, ⟨13, _⟩ => ⟨S2048x6144, .f32⟩
  | .hbm, ⟨14, _⟩ => ⟨S6144x4096, .f32⟩
  | .hbm, ⟨15, _⟩ => ⟨S2x3x128x128, .f32⟩
  | .hbm, ⟨16, _⟩ => ⟨S2x128x128, .f32⟩
  | .hbm, ⟨17, _⟩ => ⟨S2x128x128, .f32⟩
  | .hbm, ⟨18, _⟩ => ⟨S2x2x128x128, .f32⟩
  | .hbm, ⟨19, _⟩ => ⟨S2x2x128x128, .f32⟩
  | .hbm, ⟨20, _⟩ => ⟨S2x128x128, .f32⟩
  | .hbm, ⟨21, _⟩ => ⟨S2x128x128, .f32⟩
  | .hbm, ⟨22, _⟩ => ⟨S2x128x128, .f32⟩
  | .hbm, ⟨23, _⟩ => ⟨S2x2x128x128, .f32⟩
  | .hbm, ⟨24, _⟩ => ⟨S2x2x128x128, .f32⟩
  | .hbm, ⟨25, _⟩ => ⟨S2x128x128, .f32⟩
  | .hbm, ⟨26, _⟩ => ⟨S128x9, .f32⟩
  | .hbm, ⟨27, _⟩ => ⟨S9, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S3x256, .f32⟩
  | .hbm, ⟨32, _⟩ => ⟨S3x256x1, .f32⟩
  | .hbm, ⟨33, _⟩ => ⟨S2048x9, .f32⟩
  | .local _ .vmem, ⟨0, _⟩ => ⟨S2048x128, .f32⟩
  | .local _ .vmem, ⟨1, _⟩ => ⟨S6144x128, .f32⟩
  | .local _ .vmem, ⟨2, _⟩ => ⟨S4096x128, .f32⟩
  | .local _ .vmem, ⟨3, _⟩ => ⟨S2048x256, .f32⟩
  | .local _ .vmem, ⟨4, _⟩ => ⟨S6144x256, .f32⟩
  | .local _ .vmem, ⟨5, _⟩ => ⟨S6144x256, .f32⟩
  | .local _ .vmem, ⟨6, _⟩ => ⟨S3x256x1, .f32⟩
  | .local _ .vmem, ⟨7, _⟩ => ⟨S2x3x128x128, .f32⟩
  | .local _ .vmem, ⟨8, _⟩ => ⟨S2x128x128, .f32⟩
  | .local _ .vmem, ⟨9, _⟩ => ⟨S2x128x128, .f32⟩
  | .local _ .vmem, ⟨10, _⟩ => ⟨S2x2x128x128, .f32⟩
  | .local _ .vmem, ⟨11, _⟩ => ⟨S2x2x128x128, .f32⟩
  | .local _ .vmem, ⟨12, _⟩ => ⟨S2x128x128, .f32⟩
  | .local _ .vmem, ⟨13, _⟩ => ⟨S2x128x128, .f32⟩
  | .local _ .vmem, ⟨14, _⟩ => ⟨S128x9, .f32⟩
  | .local _ .vmem, ⟨15, _⟩ => ⟨S9, .f32⟩
  | .local _ .vmem, ⟨16, _⟩ => ⟨S2048x9, .f32⟩
  | .local _ .vmem, ⟨17, _⟩ => ⟨S2048x128, .bf16⟩
  | .local _ .vmem, ⟨18, _⟩ => ⟨S6144x128, .bf16⟩
  | .local _ .vmem, ⟨19, _⟩ => ⟨S4096x128, .bf16⟩
  | .local _ .vmem, ⟨20, _⟩ => ⟨S2048x128, .f32⟩
  | .local _ .vmem, ⟨21, _⟩ => ⟨S6144x128, .f32⟩
  | .local _ .vmem, ⟨22, _⟩ => ⟨S2048x128, .f32⟩
  | .local _ .vmem, ⟨23, _⟩ => ⟨S256x128, .bf16⟩
  | .local _ .vmem, ⟨24, _⟩ => ⟨S512x128, .bf16⟩
  | .local _ .vmem, ⟨25, _⟩ => ⟨S2048x128, .f32⟩
  | .local _ .vmem, ⟨26, _⟩ => ⟨S256x6144, .f32⟩
  | .local _ .vmem, ⟨27, _⟩ => ⟨S256x6144, .f32⟩
  | .local _ .vmem, ⟨28, _⟩ => ⟨S256x4096, .f32⟩
  | .local _ .vmem, ⟨29, _⟩ => ⟨S256x4096, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_scratch11 : Ref sig .tc := ⟨.vmem, 28, rfl⟩
abbrev cc0_scratch12 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x3x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x2x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x2x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x9 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S9 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2048x9 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== ReferenceIdeal.lean ====
abbrev S2048x128 : Shape := ⟨2, ![2048, 128]⟩
abbrev S6144x128 : Shape := ⟨2, ![6144, 128]⟩
abbrev S4096x128 : Shape := ⟨2, ![4096, 128]⟩
abbrev S256 : Shape := ⟨1, ![256]⟩
abbrev S2048x256 : Shape := ⟨2, ![2048, 256]⟩
abbrev S6144x256 : Shape := ⟨2, ![6144, 256]⟩
abbrev S4096x256 : Shape := ⟨2, ![4096, 256]⟩
abbrev S2048x6144 : Shape := ⟨2, ![2048, 6144]⟩
abbrev S6144x4096 : Shape := ⟨2, ![6144, 4096]⟩
abbrev S2x3x128x128 : Shape := ⟨4, ![2, 3, 128, 128]⟩
abbrev S2x128x128 : Shape := ⟨3, ![2, 128, 128]⟩
abbrev S2x2x128x128 : Shape := ⟨4, ![2, 2, 128, 128]⟩
abbrev S128x9 : Shape := ⟨2, ![128, 9]⟩
abbrev S9 : Shape := ⟨1, ![9]⟩
abbrev S1x1x128x128 : Shape := ⟨4, ![1, 1, 128, 128]⟩
abbrev S128x128 : Shape := ⟨2, ![128, 128]⟩
abbrev S256x1 : Shape := ⟨2, ![256, 1]⟩
abbrev S256x2048 : Shape := ⟨2, ![256, 2048]⟩
abbrev S256x128 : Shape := ⟨2, ![256, 128]⟩
abbrev S1x128x128 : Shape := ⟨3, ![1, 128, 128]⟩
abbrev S256x6144 : Shape := ⟨2, ![256, 6144]⟩
abbrev S6144x2048 : Shape := ⟨2, ![6144, 2048]⟩
abbrev S256x4096 : Shape := ⟨2, ![256, 4096]⟩
abbrev S4096x6144 : Shape := ⟨2, ![4096, 6144]⟩
abbrev S_ : Shape := ⟨0, ![]⟩
abbrev S2048x9 : Shape := ⟨2, ![2048, 9]⟩
abbrev S1x9 : Shape := ⟨2, ![1, 9]⟩

abbrev nBuf : Space → Nat
  | .hbm => 352
  | .vmem => 0
  | .smem => 0
  | _ => 0

abbrev hbmTy0_0 (i : Nat) : BufTy := match i % 128 with
  | 0 => ⟨S2048x128, .f32⟩
  | 1 => ⟨S6144x128, .f32⟩
  | 2 => ⟨S4096x128, .f32⟩
  | 3 => ⟨S256, .f32⟩
  | 4 => ⟨S2048x256, .f32⟩
  | 5 => ⟨S256, .f32⟩
  | 6 => ⟨S6144x256, .f32⟩
  | 7 => ⟨S256, .f32⟩
  | 8 => ⟨S6144x256, .f32⟩
  | 9 => ⟨S256, .f32⟩
  | 10 => ⟨S4096x256, .f32⟩
  | 11 => ⟨S256, .f32⟩
  | 12 => ⟨S4096x256, .f32⟩
  | 13 => ⟨S2048x6144, .f32⟩
  | 14 => ⟨S6144x4096, .f32⟩
  | 15 => ⟨S2x3x128x128, .f32⟩
  | 16 => ⟨S2x128x128, .f32⟩
  | 17 => ⟨S2x128x128, .f32⟩
  | 18 => ⟨S2x2x128x128, .f32⟩
  | 19 => ⟨S2x2x128x128, .f32⟩
  | 20 => ⟨S2x128x128, .f32⟩
  | 21 => ⟨S2x128x128, .f32⟩
  | 22 => ⟨S2x128x128, .f32⟩
  | 23 => ⟨S2x2x128x128, .f32⟩
  | 24 => ⟨S2x2x128x128, .f32⟩
  | 25 => ⟨S2x128x128, .f32⟩
  | 26 => ⟨S128x9, .f32⟩
  | 27 => ⟨S9, .f32⟩
  | 28 => ⟨S1x1x128x128, .f32⟩
  | 29 => ⟨S128x128, .f32⟩
  | 30 => ⟨S2048x128, .f32⟩
  | 31 => ⟨S256x1, .f32⟩
  | 32 => ⟨S256x2048, .f32⟩
  | 33 => ⟨S256x128, .f32⟩
  | 34 => ⟨S256x128, .f32⟩
  | 35 => ⟨S256x128, .f32⟩
  | 36 => ⟨S2048x128, .f32⟩
  | 37 => ⟨S1x1x128x128, .f32⟩
  | 38 => ⟨S128x128, .f32⟩
  | 39 => ⟨S2048x128, .f32⟩
  | 40 => ⟨S2048x128, .f32⟩
  | 41 => ⟨S256, .f32⟩
  | 42 => ⟨S256x1, .f32⟩
  | 43 => ⟨S256x2048, .f32⟩
  | 44 => ⟨S256x128, .f32⟩
  | 45 => ⟨S256x128, .f32⟩
  | 46 => ⟨S256x128, .f32⟩
  | 47 => ⟨S2048x128, .f32⟩
  | 48 => ⟨S1x1x128x128, .f32⟩
  | 49 => ⟨S128x128, .f32⟩
  | 50 => ⟨S2048x128, .f32⟩
  | 51 => ⟨S2048x128, .f32⟩
  | 52 => ⟨S2048x128, .f32⟩
  | 53 => ⟨S1x128x128, .f32⟩
  | 54 => ⟨S128x128, .f32⟩
  | 55 => ⟨S2048x128, .f32⟩
  | 56 => ⟨S2048x128, .f32⟩
  | 57 => ⟨S1x128x128, .f32⟩
  | 58 => ⟨S128x128, .f32⟩
  | 59 => ⟨S6144x128, .f32⟩
  | 60 => ⟨S256x1, .f32⟩
  | 61 => ⟨S256x6144, .f32⟩
  | 62 => ⟨S256x128, .f32⟩
  | 63 => ⟨S256x128, .f32⟩
  | 64 => ⟨S256x128, .f32⟩
  | 65 => ⟨S6144x128, .f32⟩
  | 66 => ⟨S1x1x128x128, .f32⟩
  | 67 => ⟨S128x128, .f32⟩
  | 68 => ⟨S6144x128, .f32⟩
  | 69 => ⟨S6144x128, .f32⟩
  | 70 => ⟨S256x1, .f32⟩
  | 71 => ⟨S256x6144, .f32⟩
  | 72 => ⟨S256x128, .f32⟩
  | 73 => ⟨S256x128, .f32⟩
  | 74 => ⟨S256x128, .f32⟩
  | 75 => ⟨S6144x128, .f32⟩
  | 76 => ⟨S1x1x128x128, .f32⟩
  | 77 => ⟨S128x128, .f32⟩
  | 78 => ⟨S6144x128, .f32⟩
  | 79 => ⟨S6144x128, .f32⟩
  | 80 => ⟨S256, .f32⟩
  | 81 => ⟨S256x1, .f32⟩
  | 82 => ⟨S256x6144, .f32⟩
  | 83 => ⟨S256x128, .f32⟩
  | 84 => ⟨S256x128, .f32⟩
  | 85 => ⟨S256x128, .f32⟩
  | 86 => ⟨S6144x128, .f32⟩
  | 87 => ⟨S1x1x128x128, .f32⟩
  | 88 => ⟨S128x128, .f32⟩
  | 89 => ⟨S6144x128, .f32⟩
  | 90 => ⟨S6144x128, .f32⟩
  | 91 => ⟨S256, .f32⟩
  | 92 => ⟨S256x1, .f32⟩
  | 93 => ⟨S256x6144, .f32⟩
  | 94 => ⟨S256x128, .f32⟩
  | 95 => ⟨S256x128, .f32⟩
  | 96 => ⟨S256x128, .f32⟩
  | 97 => ⟨S6144x128, .f32⟩
  | 98 => ⟨S1x1x128x128, .f32⟩
  | 99 => ⟨S128x128, .f32⟩
  | 100 => ⟨S6144x128, .f32⟩
  | 101 => ⟨S6144x128, .f32⟩
  | 102 => ⟨S6144x2048, .f32⟩
  | 103 => ⟨S6144x128, .f32⟩
  | 104 => ⟨S1x128x128, .f32⟩
  | 105 => ⟨S128x128, .f32⟩
  | 106 => ⟨S6144x128, .f32⟩
  | 107 => ⟨S6144x128, .f32⟩
  | 108 => ⟨S6144x128, .f32⟩
  | 109 => ⟨S1x128x128, .f32⟩
  | 110 => ⟨S128x128, .f32⟩
  | 111 => ⟨S6144x128, .f32⟩
  | 112 => ⟨S6144x128, .f32⟩
  | 113 => ⟨S1x128x128, .f32⟩
  | 114 => ⟨S128x128, .f32⟩
  | 115 => ⟨S4096x128, .f32⟩
  | 116 => ⟨S256x1, .f32⟩
  | 117 => ⟨S256x4096, .f32⟩
  | 118 => ⟨S256x128, .f32⟩
  | 119 => ⟨S256x128, .f32⟩
  | 120 => ⟨S256x128, .f32⟩
  | 121 => ⟨S4096x128, .f32⟩
  | 122 => ⟨S1x1x128x128, .f32⟩
  | 123 => ⟨S128x128, .f32⟩
  | 124 => ⟨S4096x128, .f32⟩
  | 125 => ⟨S4096x128, .f32⟩
  | 126 => ⟨S256x1, .f32⟩
  | 127 => ⟨S256x4096, .f32⟩
  | _ => ⟨S2048x128, .f32⟩

abbrev hbmTy0_1 (i : Nat) : BufTy := match i % 128 with
  | 0 => ⟨S256x128, .f32⟩
  | 1 => ⟨S256x128, .f32⟩
  | 2 => ⟨S256x128, .f32⟩
  | 3 => ⟨S4096x128, .f32⟩
  | 4 => ⟨S1x1x128x128, .f32⟩
  | 5 => ⟨S128x128, .f32⟩
  | 6 => ⟨S4096x128, .f32⟩
  | 7 => ⟨S4096x128, .f32⟩
  | 8 => ⟨S256, .f32⟩
  | 9 => ⟨S256x1, .f32⟩
  | 10 => ⟨S256x4096, .f32⟩
  | 11 => ⟨S256x128, .f32⟩
  | 12 => ⟨S256x128, .f32⟩
  | 13 => ⟨S256x128, .f32⟩
  | 14 => ⟨S4096x128, .f32⟩
  | 15 => ⟨S1x1x128x128, .f32⟩
  | 16 => ⟨S128x128, .f32⟩
  | 17 => ⟨S4096x128, .f32⟩
  | 18 => ⟨S4096x128, .f32⟩
  | 19 => ⟨S256, .f32⟩
  | 20 => ⟨S256x1, .f32⟩
  | 21 => ⟨S256x4096, .f32⟩
  | 22 => ⟨S256x128, .f32⟩
  | 23 => ⟨S256x128, .f32⟩
  | 24 => ⟨S256x128, .f32⟩
  | 25 => ⟨S4096x128, .f32⟩
  | 26 => ⟨S1x1x128x128, .f32⟩
  | 27 => ⟨S128x128, .f32⟩
  | 28 => ⟨S4096x128, .f32⟩
  | 29 => ⟨S4096x128, .f32⟩
  | 30 => ⟨S4096x6144, .f32⟩
  | 31 => ⟨S4096x128, .f32⟩
  | 32 => ⟨S1x128x128, .f32⟩
  | 33 => ⟨S128x128, .f32⟩
  | 34 => ⟨S4096x128, .f32⟩
  | 35 => ⟨S4096x128, .f32⟩
  | 36 => ⟨S2048x128, .f32⟩
  | 37 => ⟨S2048x128, .f32⟩
  | 38 => ⟨S_, .f32⟩
  | 39 => ⟨S2048x128, .f32⟩
  | 40 => ⟨S2048x128, .f32⟩
  | 41 => ⟨S_, .f32⟩
  | 42 => ⟨S2048x128, .f32⟩
  | 43 => ⟨S2048x128, .f32⟩
  | 44 => ⟨S6144x128, .f32⟩
  | 45 => ⟨S6144x128, .f32⟩
  | 46 => ⟨S_, .f32⟩
  | 47 => ⟨S6144x128, .f32⟩
  | 48 => ⟨S6144x128, .f32⟩
  | 49 => ⟨S_, .f32⟩
  | 50 => ⟨S6144x128, .f32⟩
  | 51 => ⟨S6144x128, .f32⟩
  | 52 => ⟨S4096x128, .f32⟩
  | 53 => ⟨S4096x128, .f32⟩
  | 54 => ⟨S_, .f32⟩
  | 55 => ⟨S4096x128, .f32⟩
  | 56 => ⟨S4096x128, .f32⟩
  | 57 => ⟨S_, .f32⟩
  | 58 => ⟨S4096x128, .f32⟩
  | 59 => ⟨S4096x128, .f32⟩
  | 60 => ⟨S1x1x128x128, .f32⟩
  | 61 => ⟨S128x128, .f32⟩
  | 62 => ⟨S2048x128, .f32⟩
  | 63 => ⟨S256x1, .f32⟩
  | 64 => ⟨S256x2048, .f32⟩
  | 65 => ⟨S256x128, .f32⟩
  | 66 => ⟨S256x128, .f32⟩
  | 67 => ⟨S256x128, .f32⟩
  | 68 => ⟨S2048x128, .f32⟩
  | 69 => ⟨S1x1x128x128, .f32⟩
  | 70 => ⟨S128x128, .f32⟩
  | 71 => ⟨S2048x128, .f32⟩
  | 72 => ⟨S2048x128, .f32⟩
  | 73 => ⟨S256, .f32⟩
  | 74 => ⟨S256x1, .f32⟩
  | 75 => ⟨S256x2048, .f32⟩
  | 76 => ⟨S256x128, .f32⟩
  | 77 => ⟨S256x128, .f32⟩
  | 78 => ⟨S256x128, .f32⟩
  | 79 => ⟨S2048x128, .f32⟩
  | 80 => ⟨S1x1x128x128, .f32⟩
  | 81 => ⟨S128x128, .f32⟩
  | 82 => ⟨S2048x128, .f32⟩
  | 83 => ⟨S2048x128, .f32⟩
  | 84 => ⟨S2048x128, .f32⟩
  | 85 => ⟨S1x128x128, .f32⟩
  | 86 => ⟨S128x128, .f32⟩
  | 87 => ⟨S2048x128, .f32⟩
  | 88 => ⟨S2048x128, .f32⟩
  | 89 => ⟨S1x128x128, .f32⟩
  | 90 => ⟨S128x128, .f32⟩
  | 91 => ⟨S6144x128, .f32⟩
  | 92 => ⟨S256x1, .f32⟩
  | 93 => ⟨S256x6144, .f32⟩
  | 94 => ⟨S256x128, .f32⟩
  | 95 => ⟨S256x128, .f32⟩
  | 96 => ⟨S256x128, .f32⟩
  | 97 => ⟨S6144x128, .f32⟩
  | 98 => ⟨S1x1x128x128, .f32⟩
  | 99 => ⟨S128x128, .f32⟩
  | 100 => ⟨S6144x128, .f32⟩
  | 101 => ⟨S6144x128, .f32⟩
  | 102 => ⟨S256x1, .f32⟩
  | 103 => ⟨S256x6144, .f32⟩
  | 104 => ⟨S256x128, .f32⟩
  | 105 => ⟨S256x128, .f32⟩
  | 106 => ⟨S256x128, .f32⟩
  | 107 => ⟨S6144x128, .f32⟩
  | 108 => ⟨S1x1x128x128, .f32⟩
  | 109 => ⟨S128x128, .f32⟩
  | 110 => ⟨S6144x128, .f32⟩
  | 111 => ⟨S6144x128, .f32⟩
  | 112 => ⟨S256, .f32⟩
  | 113 => ⟨S256x1, .f32⟩
  | 114 => ⟨S256x6144, .f32⟩
  | 115 => ⟨S256x128, .f32⟩
  | 116 => ⟨S256x128, .f32⟩
  | 117 => ⟨S256x128, .f32⟩
  | 118 => ⟨S6144x128, .f32⟩
  | 119 => ⟨S1x1x128x128, .f32⟩
  | 120 => ⟨S128x128, .f32⟩
  | 121 => ⟨S6144x128, .f32⟩
  | 122 => ⟨S6144x128, .f32⟩
  | 123 => ⟨S256, .f32⟩
  | 124 => ⟨S256x1, .f32⟩
  | 125 => ⟨S256x6144, .f32⟩
  | 126 => ⟨S256x128, .f32⟩
  | 127 => ⟨S256x128, .f32⟩
  | _ => ⟨S2048x128, .f32⟩

abbrev hbmTy0_2 (i : Nat) : BufTy := match i % 128 with
  | 0 => ⟨S256x128, .f32⟩
  | 1 => ⟨S6144x128, .f32⟩
  | 2 => ⟨S1x1x128x128, .f32⟩
  | 3 => ⟨S128x128, .f32⟩
  | 4 => ⟨S6144x128, .f32⟩
  | 5 => ⟨S6144x128, .f32⟩
  | 6 => ⟨S6144x2048, .f32⟩
  | 7 => ⟨S6144x128, .f32⟩
  | 8 => ⟨S1x128x128, .f32⟩
  | 9 => ⟨S128x128, .f32⟩
  | 10 => ⟨S6144x128, .f32⟩
  | 11 => ⟨S6144x128, .f32⟩
  | 12 => ⟨S6144x128, .f32⟩
  | 13 => ⟨S1x128x128, .f32⟩
  | 14 => ⟨S128x128, .f32⟩
  | 15 => ⟨S6144x128, .f32⟩
  | 16 => ⟨S6144x128, .f32⟩
  | 17 => ⟨S1x128x128, .f32⟩
  | 18 => ⟨S128x128, .f32⟩
  | 19 => ⟨S4096x128, .f32⟩
  | 20 => ⟨S256x1, .f32⟩
  | 21 => ⟨S256x4096, .f32⟩
  | 22 => ⟨S256x128, .f32⟩
  | 23 => ⟨S256x128, .f32⟩
  | 24 => ⟨S256x128, .f32⟩
  | 25 => ⟨S4096x128, .f32⟩
  | 26 => ⟨S1x1x128x128, .f32⟩
  | 27 => ⟨S128x128, .f32⟩
  | 28 => ⟨S4096x128, .f32⟩
  | 29 => ⟨S4096x128, .f32⟩
  | 30 => ⟨S256x1, .f32⟩
  | 31 => ⟨S256x4096, .f32⟩
  | 32 => ⟨S256x128, .f32⟩
  | 33 => ⟨S256x128, .f32⟩
  | 34 => ⟨S256x128, .f32⟩
  | 35 => ⟨S4096x128, .f32⟩
  | 36 => ⟨S1x1x128x128, .f32⟩
  | 37 => ⟨S128x128, .f32⟩
  | 38 => ⟨S4096x128, .f32⟩
  | 39 => ⟨S4096x128, .f32⟩
  | 40 => ⟨S256, .f32⟩
  | 41 => ⟨S256x1, .f32⟩
  | 42 => ⟨S256x4096, .f32⟩
  | 43 => ⟨S256x128, .f32⟩
  | 44 => ⟨S256x128, .f32⟩
  | 45 => ⟨S256x128, .f32⟩
  | 46 => ⟨S4096x128, .f32⟩
  | 47 => ⟨S1x1x128x128, .f32⟩
  | 48 => ⟨S128x128, .f32⟩
  | 49 => ⟨S4096x128, .f32⟩
  | 50 => ⟨S4096x128, .f32⟩
  | 51 => ⟨S256, .f32⟩
  | 52 => ⟨S256x1, .f32⟩
  | 53 => ⟨S256x4096, .f32⟩
  | 54 => ⟨S256x128, .f32⟩
  | 55 => ⟨S256x128, .f32⟩
  | 56 => ⟨S256x128, .f32⟩
  | 57 => ⟨S4096x128, .f32⟩
  | 58 => ⟨S1x1x128x128, .f32⟩
  | 59 => ⟨S128x128, .f32⟩
  | 60 => ⟨S4096x128, .f32⟩
  | 61 => ⟨S4096x128, .f32⟩
  | 62 => ⟨S4096x6144, .f32⟩
  | 63 => ⟨S4096x128, .f32⟩
  | 64 => ⟨S1x128x128, .f32⟩
  | 65 => ⟨S128x128, .f32⟩
  | 66 => ⟨S4096x128, .f32⟩
  | 67 => ⟨S4096x128, .f32⟩
  | 68 => ⟨S2048x128, .f32⟩
  | 69 => ⟨S2048x128, .f32⟩
  | 70 => ⟨S_, .f32⟩
  | 71 => ⟨S2048x128, .f32⟩
  | 72 => ⟨S2048x128, .f32⟩
  | 73 => ⟨S_, .f32⟩
  | 74 => ⟨S2048x128, .f32⟩
  | 75 => ⟨S2048x128, .f32⟩
  | 76 => ⟨S6144x128, .f32⟩
  | 77 => ⟨S6144x128, .f32⟩
  | 78 => ⟨S_, .f32⟩
  | 79 => ⟨S6144x128, .f32⟩
  | 80 => ⟨S6144x128, .f32⟩
  | 81 => ⟨S_, .f32⟩
  | 82 => ⟨S6144x128, .f32⟩
  | 83 => ⟨S6144x128, .f32⟩
  | 84 => ⟨S4096x128, .f32⟩
  | 85 => ⟨S4096x128, .f32⟩
  | 86 => ⟨S_, .f32⟩
  | 87 => ⟨S4096x128, .f32⟩
  | 88 => ⟨S4096x128, .f32⟩
  | 89 => ⟨S_, .f32⟩
  | 90 => ⟨S4096x128, .f32⟩
  | 91 => ⟨S4096x128, .f32⟩
  | 92 => ⟨S2048x9, .f32⟩
  | 93 => ⟨S1x9, .f32⟩
  | 94 => ⟨S2048x9, .f32⟩
  | 95 => ⟨S2048x9, .f32⟩
  | _ => ⟨S2048x128, .f32⟩

abbrev hbmTy (i : Nat) : BufTy := match i / 128 with
  | 0 => hbmTy0_0 i
  | 1 => hbmTy0_1 i
  | 2 => hbmTy0_2 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_cst : Ref sig .tc := ⟨.hbm, 166, rfl⟩
abbrev main_v138 : Ref sig .tc := ⟨.hbm, 167, rfl⟩
abbrev main_v139 : Ref sig .tc := ⟨.hbm, 168, rfl⟩
abbrev main_cst_0 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_cst_1 : Ref sig .tc := ⟨.hbm, 174, rfl⟩
abbrev main_v144 : Ref sig .tc := ⟨.hbm, 175, rfl⟩
abbrev main_v145 : Ref sig .tc := ⟨.hbm, 176, rfl⟩
abbrev main_cst_2 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_cst_3 : Ref sig .tc := ⟨.hbm, 182, rfl⟩
abbrev main_v150 : Ref sig .tc := ⟨.hbm, 183, rfl⟩
abbrev main_v151 : Ref sig .tc := ⟨.hbm, 184, rfl⟩
abbrev main_cst_4 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_v263 : Ref sig .tc := ⟨.hbm, 297, rfl⟩
abbrev main_v264 : Ref sig .tc := ⟨.hbm, 298, rfl⟩
abbrev main_v265 : Ref sig .tc := ⟨.hbm, 299, rfl⟩
abbrev main_v266 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_v270 : Ref sig .tc := ⟨.hbm, 304, rfl⟩
abbrev main_v271 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_v285 : Ref sig .tc := ⟨.hbm, 319, rfl⟩
abbrev main_v286 : Ref sig .tc := ⟨.hbm, 320, rfl⟩
abbrev main_v287 : Ref sig .tc := ⟨.hbm, 321, rfl⟩
abbrev main_v288 : Ref sig .tc := ⟨.hbm, 322, rfl⟩
abbrev main_v289 : Ref sig .tc := ⟨.hbm, 323, rfl⟩
abbrev main_v290 : Ref sig .tc := ⟨.hbm, 324, rfl⟩
abbrev main_v291 : Ref sig .tc := ⟨.hbm, 325, rfl⟩
abbrev main_cst_5 : Ref sig .tc := ⟨.hbm, 326, rfl⟩
abbrev main_v292 : Ref sig .tc := ⟨.hbm, 327, rfl⟩
abbrev main_v293 : Ref sig .tc := ⟨.hbm, 328, rfl⟩
abbrev main_cst_6 : Ref sig .tc := ⟨.hbm, 329, rfl⟩
abbrev main_v294 : Ref sig .tc := ⟨.hbm, 330, rfl⟩
abbrev main_v295 : Ref sig .tc := ⟨.hbm, 331, rfl⟩
abbrev main_v296 : Ref sig .tc := ⟨.hbm, 332, rfl⟩
abbrev main_v297 : Ref sig .tc := ⟨.hbm, 333, rfl⟩
abbrev main_cst_7 : Ref sig .tc := ⟨.hbm, 334, rfl⟩
abbrev main_v298 : Ref sig .tc := ⟨.hbm, 335, rfl⟩
abbrev main_v299 : Ref sig .tc := ⟨.hbm, 336, rfl⟩
abbrev main_cst_8 : Ref sig .tc := ⟨.hbm, 337, rfl⟩
abbrev main_v300 : Ref sig .tc := ⟨.hbm, 338, rfl⟩
abbrev main_v301 : Ref sig .tc := ⟨.hbm, 339, rfl⟩
abbrev main_v302 : Ref sig .tc := ⟨.hbm, 340, rfl⟩
abbrev main_v303 : Ref sig .tc := ⟨.hbm, 341, rfl⟩
abbrev main_cst_9 : Ref sig .tc := ⟨.hbm, 342, rfl⟩
abbrev main_v304 : Ref sig .tc := ⟨.hbm, 343, rfl⟩
abbrev main_v305 : Ref sig .tc := ⟨.hbm, 344, rfl⟩
abbrev main_cst_10 : Ref sig .tc := ⟨.hbm, 345, rfl⟩
abbrev main_v306 : Ref sig .tc := ⟨.hbm, 346, rfl⟩
abbrev main_v307 : Ref sig .tc := ⟨.hbm, 347, rfl⟩
abbrev main_v308 : Ref sig .tc := ⟨.hbm, 348, rfl⟩
abbrev main_v309 : Ref sig .tc := ⟨.hbm, 349, rfl⟩
abbrev main_v310 : Ref sig .tc := ⟨.hbm, 350, rfl⟩
abbrev main_v311 : Ref sig .tc := ⟨.hbm, 351, rfl⟩

abbrev nD : Nat := 1
abbrev τ : Topo := Topo.v7x

variable {F : FTy → Type} [FloatOps F]
-- ==== Proof.Algebra.lean ====
/- Matrices of extended reals: with every entry finite, products associate and distribute as over the reals. -/
module

public import Idealize.ShloMosaic.PureOps.Ideal

@[expose] public section

noncomputable section

namespace Cert.Net

open Idealize.ShloMosaic

/-- A matrix of extended reals. -/
abbrev Mat (n m : ℕ) := Fin n → Fin m → EReal

variable {n m k l : ℕ}

/-- The matrix product. -/
def mm (A : Mat n k) (B : Mat k m) : Mat n m := fun i j => ∑ a, A i a * B a j

/-- The transpose. -/
def tr (A : Mat n m) : Mat m n := fun i j => A j i

/-- Row `i` multiplied by the number `e i`. -/
def scale (e : Fin n → EReal) (A : Mat n m) : Mat n m := fun i j => e i * A i j

/-- The logistic function of every entry. -/
def lgs (A : Mat n m) : Mat n m := fun i j => Ideal.logistic (A i j)

/-- Every entry is a real number. -/
def IsReal (A : Mat n m) : Prop := ∀ i j, ∃ r : ℝ, A i j = r

/-- The matrix with the given real entries. -/
def up (A : Fin n → Fin m → ℝ) : Mat n m := fun i j => (A i j : EReal)

theorem IsReal.lift {A : Mat n m} (h : IsReal A) : ∃ A' : Fin n → Fin m → ℝ, A = up A' :=
  ⟨fun i j => (h i j).choose, funext fun i => funext fun j => (h i j).choose_spec⟩

theorem isReal_up (A : Fin n → Fin m → ℝ) : IsReal (up A) := fun i j => ⟨A i j, rfl⟩

/-- A finite sum of real numbers is the same real number among the extended reals. -/
theorem coe_sum {ι : Type} (s : Finset ι) (f : ι → ℝ) : ∑ a ∈ s, (f a : EReal) = ((∑ a ∈ s, f a : ℝ) : EReal) := by
  classical
  induction s using Finset.induction_on with
  | empty => simp
  | insert a s ha ih => rw [Finset.sum_insert ha, Finset.sum_insert ha, ih, EReal.coe_add]

theorem mm_up (A : Fin n → Fin k → ℝ) (B : Fin k → Fin m → ℝ) :
    mm (up A) (up B) = up fun i j => ∑ a, A i a * B a j := by
  funext i j
  simp only [mm, up, ← EReal.coe_mul, coe_sum]

theorem IsReal.mm {A : Mat n k} {B : Mat k m} (hA : IsReal A) (hB : IsReal B) : IsReal (mm A B) := by
  obtain ⟨A, rfl⟩ := hA.lift; obtain ⟨B, rfl⟩ := hB.lift
  rw [mm_up]; exact isReal_up _

theorem IsReal.tr {A : Mat n m} (hA : IsReal A) : IsReal (tr A) := fun i j => hA j i

theorem IsReal.add {A B : Mat n m} (hA : IsReal A) (hB : IsReal B) : IsReal (A + B) := fun i j => by
  obtain ⟨a, ha⟩ := hA i j; obtain ⟨b, hb⟩ := hB i j
  exact ⟨a + b, by rw [Pi.add_apply, Pi.add_apply, ha, hb, EReal.coe_add]⟩

theorem IsReal.scale {e : Fin n → EReal} {A : Mat n m} (he : ∀ i, ∃ r : ℝ, e i = r) (hA : IsReal A) :
    IsReal (scale e A) := fun i j => by
  obtain ⟨a, ha⟩ := hA i j; obtain ⟨b, hb⟩ := he i
  exact ⟨b * a, by rw [Net.scale, ha, hb, EReal.coe_mul]⟩

/-- The logistic function of any extended real is a real number. -/
theorem isReal_lgs (A : Mat n m) : IsReal (lgs A) := fun i j => by
  unfold lgs
  induction A i j using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- A product of three finite matrices does not depend on which product is taken first. -/
theorem mm_assoc {A : Mat n k} {B : Mat k l} {C : Mat l m} (hA : IsReal A) (hB : IsReal B) (hC : IsReal C) :
    mm (mm A B) C = mm A (mm B C) := by
  obtain ⟨A, rfl⟩ := hA.lift; obtain ⟨B, rfl⟩ := hB.lift; obtain ⟨C, rfl⟩ := hC.lift
  simp only [mm_up]
  congr 1; funext i j
  simp only [Finset.sum_mul, Finset.mul_sum, mul_assoc]
  exact Finset.sum_comm

/-- A finite matrix times a sum of finite matrices is the sum of the products. -/
theorem mm_add {A : Mat n k} {B C : Mat k m} (hA : IsReal A) (hB : IsReal B) (hC : IsReal C) :
    mm A (B + C) = mm A B + mm A C := by
  obtain ⟨A, rfl⟩ := hA.lift; obtain ⟨B, rfl⟩ := hB.lift; obtain ⟨C, rfl⟩ := hC.lift
  have h : up B + up C = up fun i j => B i j + C i j := by
    funext i j; simp only [Pi.add_apply, up, EReal.coe_add]
  rw [h, mm_up, mm_up, mm_up]
  funext i j
  simp only [up, Pi.add_apply, mul_add, Finset.sum_add_distrib, EReal.coe_add]

/-- A spectral filter of degree two: the weights applied before the eigenvectors, against after them. -/
theorem spectral {E : Mat n k} {S T : Mat k l} {V W : Mat l m} (hE : IsReal E) (hS : IsReal S) (hT : IsReal T)
    (hV : IsReal V) (hW : IsReal W) : mm E (mm S V + mm T W) = mm (mm E S) V + mm (mm E T) W := by
  rw [mm_add hE (hS.mm hV) (hT.mm hW), mm_assoc hE hS hV, mm_assoc hE hT hW]

/-! ## One layer, as the reference and as the kernel compute it -/

/-- The products of the eigenvalues with themselves. -/
def sq (e : Fin k → EReal) : Fin k → EReal := fun i => e i * e i

/-- The coefficients of `x` on the eigenvectors `E`. -/
def coeff (E : Mat n k) (x : Mat n m) : Mat k m := mm (tr E) x

/-- The reference's rank-0 update, before the logistic function. -/
def refNodes {p : ℕ} (x0 : Mat n m) (x1 : Mat p m) (e : Fin k → EReal) (E : Mat n k) (B : Mat n p)
    (V0 V1 V2 W : Mat m m) : Mat n m :=
  mm x0 V0 + mm (mm E (scale e (coeff E x0))) V1 + mm (mm E (scale (sq e) (coeff E x0))) V2 + mm (mm B x1) W

/-- The kernel's rank-0 update, before the logistic function. -/
def kerNodes {p : ℕ} (x0 : Mat n m) (x1 : Mat p m) (e : Fin k → EReal) (E : Mat n k) (B : Mat n p)
    (V0 V1 V2 W : Mat m m) : Mat n m :=
  mm x0 V0 + mm B (mm x1 W) + mm E (mm (scale e (coeff E x0)) V1 + mm (scale (sq e) (coeff E x0)) V2)

/-- The reference's rank-1 update, before the logistic function. -/
def refEdges {p q : ℕ} (x1 : Mat n m) (x0 : Mat p m) (x2 : Mat q m) (d u : Fin k → EReal) (D U : Mat n k)
    (B : Mat p n) (C : Mat n q) (V D1 D2 U1 U2 W X : Mat m m) : Mat n m :=
  mm x1 V + mm (mm D (scale d (coeff D x1))) D1 + mm (mm U (scale u (coeff U x1))) U1
    + mm (mm D (scale (sq d) (coeff D x1))) D2 + mm (mm U (scale (sq u) (coeff U x1))) U2
    + mm (mm (tr B) x0) W + mm (mm C x2) X

/-- The kernel's rank-1 update, before the logistic function. -/
def kerEdges {p q : ℕ} (x1 : Mat n m) (x0 : Mat p m) (x2 : Mat q m) (d u : Fin k → EReal) (D U : Mat n k)
    (B : Mat p n) (C : Mat n q) (V D1 D2 U1 U2 W X : Mat m m) : Mat n m :=
  mm x1 V + (mm (tr B) (mm x0 W) + mm C (mm x2 X))
    + mm D (mm (scale d (coeff D x1)) D1 + mm (scale (sq d) (coeff D x1)) D2)
    + mm U (mm (scale u (coeff U x1)) U1 + mm (scale (sq u) (coeff U x1)) U2)

/-- Every number of the family is real. -/
def IsRealV (e : Fin k → EReal) : Prop := ∀ i, ∃ r : ℝ, e i = r

theorem IsRealV.sq {e : Fin k → EReal} (h : IsRealV e) : IsRealV (sq e) := fun i => by
  obtain ⟨r, hr⟩ := h i
  exact ⟨r * r, by rw [Net.sq, hr, EReal.coe_mul]⟩

theorem IsReal.coeff {E : Mat n k} {x : Mat n m} (hE : IsReal E) (hx : IsReal x) : IsReal (coeff E x) := hE.tr.mm hx

/-- On finite data the two rank-0 updates agree (`V0` may hold infinities). -/
theorem kerNodes_eq {p : ℕ} {x0 : Mat n m} {x1 : Mat p m} {e : Fin k → EReal} {E : Mat n k} {B : Mat n p}
    (V0 : Mat m m) {V1 V2 W : Mat m m} (h0 : IsReal x0) (h1 : IsReal x1) (he : IsRealV e) (hE : IsReal E) (hB : IsReal B)
    (hV1 : IsReal V1) (hV2 : IsReal V2) (hW : IsReal W) :
    kerNodes x0 x1 e E B V0 V1 V2 W = refNodes x0 x1 e E B V0 V1 V2 W := by
  have hc := hE.coeff h0
  unfold kerNodes refNodes
  rw [spectral hE (hc.scale he) (hc.scale he.sq) hV1 hV2, mm_assoc hB h1 hW]
  abel

/-- On finite data the two rank-1 updates agree (`V` may hold infinities). -/
theorem kerEdges_eq {p q : ℕ} {x1 : Mat n m} {x0 : Mat p m} {x2 : Mat q m} {d u : Fin k → EReal} {D U : Mat n k}
    {B : Mat p n} {C : Mat n q} (V : Mat m m) {D1 D2 U1 U2 W X : Mat m m} (h1 : IsReal x1) (h0 : IsReal x0)
    (h2 : IsReal x2) (hd : IsRealV d) (hu : IsRealV u) (hD : IsReal D) (hU : IsReal U) (hB : IsReal B) (hC : IsReal C)
    (hD1 : IsReal D1) (hD2 : IsReal D2) (hU1 : IsReal U1) (hU2 : IsReal U2) (hW : IsReal W) (hX : IsReal X) :
    kerEdges x1 x0 x2 d u D U B C V D1 D2 U1 U2 W X = refEdges x1 x0 x2 d u D U B C V D1 D2 U1 U2 W X := by
  have hcd := hD.coeff h1
  have hcu := hU.coeff h1
  unfold kerEdges refEdges
  rw [spectral hD (hcd.scale hd) (hcd.scale hd.sq) hD1 hD2, spectral hU (hcu.scale hu) (hcu.scale hu.sq) hU1 hU2,
    mm_assoc hB.tr h0 hW, mm_assoc hC h2 hX]
  abel

end Cert.Net

end

end
-- ==== Proof.Net.lean ====
/- The network as one function of its arguments, in the reference's order and in the kernel's, and their equality on finite data. -/
module

public import proofs.«01_k».proof.Proof.Algebra

@[expose] public section

noncomputable section

namespace Cert.Net

/-- The arguments the logits depend on, as matrices: features of the nodes, edges and triangles; the eigenpairs of the
    three Laplacians; the two incidence matrices; the weights, by layer where there are two; the readout. -/
structure Inputs where
  x0 : Mat 2048 128
  x1 : Mat 6144 128
  x2 : Mat 4096 128
  e : Fin 256 → EReal
  E : Mat 2048 256
  d : Fin 256 → EReal
  D : Mat 6144 256
  u : Fin 256 → EReal
  U : Mat 6144 256
  B : Mat 2048 6144
  C : Mat 6144 4096
  W0 : Fin 2 → Fin 3 → Mat 128 128
  W10 : Fin 2 → Mat 128 128
  W1id : Fin 2 → Mat 128 128
  W1d : Fin 2 → Fin 2 → Mat 128 128
  W1u : Fin 2 → Fin 2 → Mat 128 128
  W01 : Fin 2 → Mat 128 128
  W21 : Fin 2 → Mat 128 128
  Wout : Mat 128 9
  bout : Fin 9 → EReal

namespace Inputs

variable (I : Inputs)

/-- The matrix each of whose rows is the bias. -/
def bias : Mat 2048 9 := fun _ j => I.bout j

/-- The reference's node features after the first layer. -/
def refX0 : Mat 2048 128 := lgs (refNodes I.x0 I.x1 I.e I.E I.B (I.W0 0 0) (I.W0 0 1) (I.W0 0 2) (I.W10 0))

/-- The reference's edge features after the first layer. -/
def refX1 : Mat 6144 128 := lgs (refEdges I.x1 I.x0 I.x2 I.d I.u I.D I.U I.B I.C (I.W1id 0) (I.W1d 0 0) (I.W1d 0 1)
  (I.W1u 0 0) (I.W1u 0 1) (I.W01 0) (I.W21 0))

/-- The reference's logits. -/
def refOut : Mat 2048 9 :=
  mm (lgs (refNodes I.refX0 I.refX1 I.e I.E I.B (I.W0 1 0) (I.W0 1 1) (I.W0 1 2) (I.W10 1))) I.Wout + I.bias

/-- The kernel's node features after the first layer. -/
def kerX0 : Mat 2048 128 := lgs (kerNodes I.x0 I.x1 I.e I.E I.B (I.W0 0 0) (I.W0 0 1) (I.W0 0 2) (I.W10 0))

/-- The kernel's edge features after the first layer. -/
def kerX1 : Mat 6144 128 := lgs (kerEdges I.x1 I.x0 I.x2 I.d I.u I.D I.U I.B I.C (I.W1id 0) (I.W1d 0 0) (I.W1d 0 1)
  (I.W1u 0 0) (I.W1u 0 1) (I.W01 0) (I.W21 0))

/-- The kernel's logits. -/
def kerOut : Mat 2048 9 :=
  mm (lgs (kerNodes I.kerX0 I.kerX1 I.e I.E I.B (I.W0 1 0) (I.W0 1 1) (I.W0 1 2) (I.W10 1))) I.Wout + I.bias

/-- The arguments whose products the kernel regroups are real numbers. -/
structure Finite : Prop where
  x0 : IsReal I.x0
  x1 : IsReal I.x1
  x2 : IsReal I.x2
  e : IsRealV I.e
  E : IsReal I.E
  d : IsRealV I.d
  D : IsReal I.D
  u : IsRealV I.u
  U : IsReal I.U
  B : IsReal I.B
  C : IsReal I.C
  W01' : IsReal (I.W0 0 1)
  W02' : IsReal (I.W0 0 2)
  W11' : IsReal (I.W0 1 1)
  W12' : IsReal (I.W0 1 2)
  W10 : ∀ p, IsReal (I.W10 p)
  W1d : ∀ q, IsReal (I.W1d 0 q)
  W1u : ∀ q, IsReal (I.W1u 0 q)
  W01 : IsReal (I.W01 0)
  W21 : IsReal (I.W21 0)

/-- On finite data the kernel's logits are the reference's. -/
theorem kerOut_eq (h : I.Finite) : I.kerOut = I.refOut := by
  have h0 : I.kerX0 = I.refX0 := congrArg lgs (kerNodes_eq _ h.x0 h.x1 h.e h.E h.B h.W01' h.W02' (h.W10 0))
  have h1 : I.kerX1 = I.refX1 := congrArg lgs (kerEdges_eq _ h.x1 h.x0 h.x2 h.d h.u h.D h.U h.B h.C (h.W1d 0) (h.W1d 1)
    (h.W1u 0) (h.W1u 1) h.W01 h.W21)
  unfold kerOut refOut
  rw [h0, h1, kerNodes_eq (x0 := I.refX0) (x1 := I.refX1) _ (isReal_lgs _) (isReal_lgs _) h.e h.E h.B h.W11' h.W12' (h.W10 1)]

end Inputs

end Cert.Net

end

end
-- ==== Proof.Mats.lean ====
/- Arrays of rank two read as matrices, and the operations of both programs on them, at the ideal values. -/
module

public import proofs.«01_k».proof.Proof.Net
public import Idealize.ShloMosaic.Lib.Pointwise
public import Idealize.ShloMosaic.Lib.StackMember
public import Idealize.ShloMosaic.Lib.KernelVsHost

@[expose] public section

set_option maxRecDepth 16384

noncomputable section

namespace Cert.Net

open Idealize.ShloMosaic

variable {n m k : ℕ} {φ ψ : FTy}

/-- An array of rank two as a matrix. -/
def mat (x : FVec Ideal ⟨2, ![n, m]⟩ φ) : Mat n m := fun i j => x (ix2 i j)

/-- An array of rank one as a family. -/
def vec (x : FVec Ideal ⟨1, ![n]⟩ φ) : Fin n → EReal := fun i => x (ix1 i)

/-- Matrix `p` of a stack. -/
def mat3 {a : ℕ} (x : FVec Ideal ⟨3, ![a, n, m]⟩ φ) (p : Fin a) : Mat n m := fun i j => x (ix3 p i j)

/-- Matrix `(p, q)` of a stack of stacks. -/
def mat4 {a b : ℕ} (x : FVec Ideal ⟨4, ![a, b, n, m]⟩ φ) (p : Fin a) (q : Fin b) : Mat n m := fun i j => x (ix4 p q i j)

theorem mat_ext {x y : FVec Ideal ⟨2, ![n, m]⟩ φ} (h : mat x = mat y) : x = y := by
  funext j
  have := congrFun (congrFun h (j 0)) (j 1)
  have e : ix2 (j 0) (j 1) = j := by
    funext a; fin_cases a <;> rfl
  exact (congrArg x e).symm.trans (this.trans (congrArg y e))

theorem mat_addf (x y : FVec Ideal ⟨2, ![n, m]⟩ φ) : mat (addf x y) = mat x + mat y := rfl

theorem mat_truncf (x : FVec Ideal ⟨2, ![n, m]⟩ φ) (h : ψ.bits < φ.bits) : mat (truncf ψ x h) = mat x := rfl

theorem mat_logistic (x : FVec Ideal ⟨2, ![n, m]⟩ φ) : mat (logistic x) = lgs (mat x) := rfl

theorem mat_dot (A : FVec Ideal ⟨2, ![n, k]⟩ φ) (B : FVec Ideal ⟨2, ![k, m]⟩ ψ) :
    mat (Host.dotGeneral (DotDims.plain n k m) none A B) = mm (mat A) (mat B) := by
  funext i j
  exact StackMember.dotGeneral_plain_apply none A B i j

theorem mat_matmul (A : FVec Ideal ⟨2, ![n, k]⟩ φ) (B : FVec Ideal ⟨2, ![k, m]⟩ ψ) :
    mat (matmul (DotDims.plain n k m) none A B (constant ⟨2, ![n, m]⟩ .f32 0x00000000#32)) = mm (mat A) (mat B) := by
  rw [matmul_zero_eq_dotGeneral, mat_dot]

/-- The reference's spelling of the logistic function. -/
theorem mat_lgs (x : FVec Ideal ⟨2, ![n, m]⟩ .f32)
    (h : (⟨0, ![]⟩ : Shape).BroadcastsInDim ⟨2, ![n, m]⟩ (![] : Fin 0 → Fin 2)) :
    mat (Host.divf (broadcastInDim ⟨2, ![n, m]⟩ ![] h (constant ⟨0, ![]⟩ .f32 0x3F800000#32))
      (addf (broadcastInDim ⟨2, ![n, m]⟩ ![] h (constant ⟨0, ![]⟩ .f32 0x3F800000#32)) (Host.exp (Host.negf x))))
      = lgs (mat x) := by
  funext i j
  unfold mat lgs Ideal.logistic
  pointwise

end Cert.Net

end

end
-- ==== Proof.Pre.lean ====
/- What the precondition says: the arguments it names are real numbers. -/
module

public import proofs.«01_k».proof.Pre_finite
public import proofs.«01_k».proof.Proof.Mats
public import Idealize.ShloMosaic.Lib.ReduceAll
public import Idealize.ShloMosaic.Lib.Affine

@[expose] public section

set_option maxRecDepth 16384

noncomputable section

namespace Cert.Net.Pre

open Idealize.ShloMosaic

/-- Only a real number less itself is zero. -/
theorem real_of_sub {x : EReal} (h : x - x = 0) : ∃ r : ℝ, x = r := by
  induction x using EReal.rec with
  | bot => exact absurd h (by simp)
  | top => exact absurd h (by simp)
  | coe r => exact ⟨r, rfl⟩

/-- Every element of an array whose test by subtraction succeeds is a real number. -/
theorem real_of_all {s t u z : Shape} [Subsingleton t.Idx] {axes : List (Fin s.rank)} (x : FVec Ideal s .f32)
    (dims : Fin z.rank → Fin s.rank) (hb : z.BroadcastsInDim s dims) (init : u.Idx → BitVec 1) (h : s.ReducesTo axes t) (hu : 0 < u.numel) (j : t.Idx)
    (e : Host.reduce IntOp.andi (cmpf .oeq (subf x x) (broadcastInDim s dims hb (constant z .f32 0x00000000#32))) init h hu j = 1#1)
    (i : s.Idx) : ∃ r : ℝ, x i = r := by
  have e1 := Host.reduce_andi_all _ _ h hu j e i
  refine real_of_sub ?_
  have e2 : BitVec.ofBool (decide (x i - x i = Ideal.ofBits .f32 0#32)) = 1#1 := e1
  by_contra hne
  simp [hne] at e2

/-! The tests the precondition makes, one by one. -/

open Cert.Pre_finite Cert.Pre_finite.Facts

/-- The dimensions of the arrays the precondition names fit together as its text says. -/
theorem facts : Cert.Pre_finite.Facts := by
  constructor <;> decide

instance : Subsingleton S_.Idx := ⟨fun a b => funext fun i => i.elim0⟩

theorem and_one {x y : IVec S_ 1} {j : S_.Idx} (h : andi x y j = 1#1) : x j = 1#1 ∧ y j = 1#1 := IntOp.andi_eq_one.1 h

/-- All elements are real numbers. -/
def AllReal {s : Shape} (x : FVec Ideal s .f32) : Prop := ∀ i, ∃ r : ℝ, x i = r

/-- The precondition says of each array, or part of an array, that it names: all elements are real numbers. -/
theorem decode [Cert.Pre_finite.Facts] (a0 : FVec Ideal S2048x128 .f32) (a1 : FVec Ideal S6144x128 .f32) (a2 : FVec Ideal S4096x128 .f32) (a3 : FVec Ideal S256 .f32) (a4 : FVec Ideal S2048x256 .f32) (a5 : FVec Ideal S256 .f32) (a6 : FVec Ideal S6144x256 .f32) (a7 : FVec Ideal S256 .f32) (a8 : FVec Ideal S6144x256 .f32) (a9 : FVec Ideal S256 .f32) (a10 : FVec Ideal S4096x256 .f32) (a11 : FVec Ideal S256 .f32) (a12 : FVec Ideal S4096x256 .f32) (a13 : FVec Ideal S2048x6144 .f32) (a14 : FVec Ideal S6144x4096 .f32) (a15 : FVec Ideal S2x3x128x128 .f32) (a16 : FVec Ideal S2x128x128 .f32) (a17 : FVec Ideal S2x128x128 .f32) (a18 : FVec Ideal S2x2x128x128 .f32) (a19 : FVec Ideal S2x2x128x128 .f32) (a20 : FVec Ideal S2x128x128 .f32) (a21 : FVec Ideal S2x128x128 .f32) (a22 : FVec Ideal S2x128x128 .f32) (a23 : FVec Ideal S2x2x128x128 .f32) (a24 : FVec Ideal S2x2x128x128 .f32) (a25 : FVec Ideal S2x128x128 .f32) (a26 : FVec Ideal S128x9 .f32) (a27 : FVec Ideal S9 .f32)
    (h : fn (F := Ideal) a0 a1 a2 a3 a4 a5 a6 a7 a8 a9 a10 a11 a12 a13 a14 a15 a16 a17 a18 a19 a20 a21 a22 a23 a24 a25 a26 a27 = fun _ => 1#1) :
    AllReal (a0)
      ∧ AllReal (a1)
      ∧ AllReal (a2)
      ∧ AllReal (a3)
      ∧ AllReal (a4)
      ∧ AllReal (a5)
      ∧ AllReal (a6)
      ∧ AllReal (a7)
      ∧ AllReal (a8)
      ∧ AllReal (a13)
      ∧ AllReal (a14)
      ∧ AllReal (extractStridedSlice S2x2x128x128 ![0, 1, 0, 0] a15 slices_S2x3x128x128_S2x2x128x128_0_1_0_0)
      ∧ AllReal (a16)
      ∧ AllReal (shapeCast S2x128x128 (extractStridedSlice S1x2x128x128 ![0, 0, 0, 0] a18 slices_S2x2x128x128_S1x2x128x128_0_0_0_0) shapeCasts_S1x2x128x128_S2x128x128)
      ∧ AllReal (shapeCast S2x128x128 (extractStridedSlice S1x2x128x128 ![0, 0, 0, 0] a19 slices_S2x2x128x128_S1x2x128x128_0_0_0_0) shapeCasts_S1x2x128x128_S2x128x128)
      ∧ AllReal (shapeCast S128x128 (extractStridedSlice S1x128x128 ![0, 0, 0] a20 slices_S2x128x128_S1x128x128_0_0_0) shapeCasts_S1x128x128_S128x128)
      ∧ AllReal (shapeCast S128x128 (extractStridedSlice S1x128x128 ![0, 0, 0] a21 slices_S2x128x128_S1x128x128_0_0_0) shapeCasts_S1x128x128_S128x128) := by
  have h16 := congrFun h (fun i => i.elim0)
  dsimp only [fn, fn_part1, fn_part2, fn_part3, fn_part4, fn_part5] at h16
  obtain ⟨h15, e16⟩ := and_one h16
  obtain ⟨h14, e15⟩ := and_one h15
  obtain ⟨h13, e14⟩ := and_one h14
  obtain ⟨h12, e13⟩ := and_one h13
  obtain ⟨h11, e12⟩ := and_one h12
  obtain ⟨h10, e11⟩ := and_one h11
  obtain ⟨h9, e10⟩ := and_one h10
  obtain ⟨h8, e9⟩ := and_one h9
  obtain ⟨h7, e8⟩ := and_one h8
  obtain ⟨h6, e7⟩ := and_one h7
  obtain ⟨h5, e6⟩ := and_one h6
  obtain ⟨h4, e5⟩ := and_one h5
  obtain ⟨h3, e4⟩ := and_one h4
  obtain ⟨h2, e3⟩ := and_one h3
  obtain ⟨h1, e2⟩ := and_one h2
  obtain ⟨h0, e1⟩ := and_one h1
  exact ⟨real_of_all _ _ _ _ _ _ _ h0, real_of_all _ _ _ _ _ _ _ e1, real_of_all _ _ _ _ _ _ _ e2, real_of_all _ _ _ _ _ _ _ e3, real_of_all _ _ _ _ _ _ _ e4, real_of_all _ _ _ _ _ _ _ e5, real_of_all _ _ _ _ _ _ _ e6, real_of_all _ _ _ _ _ _ _ e7, real_of_all _ _ _ _ _ _ _ e8, real_of_all _ _ _ _ _ _ _ e9, real_of_all _ _ _ _ _ _ _ e10, real_of_all _ _ _ _ _ _ _ e11, real_of_all _ _ _ _ _ _ _ e12, real_of_all _ _ _ _ _ _ _ e13, real_of_all _ _ _ _ _ _ _ e14, real_of_all _ _ _ _ _ _ _ e15, real_of_all _ _ _ _ _ _ _ e16⟩

theorem weight0 [Cert.Pre_finite.Facts] (a15 : FVec Ideal S2x3x128x128 .f32) (h : AllReal (extractStridedSlice S2x2x128x128 ![0, 1, 0, 0] a15 slices_S2x3x128x128_S2x2x128x128_0_1_0_0)) (p : Fin 2) :
    IsReal (mat4 a15 p 1) ∧ IsReal (mat4 a15 p 2) := by
  constructor
  · intro i j
    have e := h (ix4 p 0 i j)
    pointwise at e
    exact e
  · intro i j
    have e := h (ix4 p 1 i j)
    pointwise at e
    exact e

theorem weight4 [Cert.Pre_finite.Facts] (a : FVec Ideal S2x2x128x128 .f32) (h : AllReal (shapeCast S2x128x128 (extractStridedSlice S1x2x128x128 ![0, 0, 0, 0] a slices_S2x2x128x128_S1x2x128x128_0_0_0_0) shapeCasts_S1x2x128x128_S2x128x128)) (q : Fin 2) :
    IsReal (mat4 a 0 q) := by
  intro i j
  have e := h (ix3 q i j)
  pointwise at e
  exact e

theorem weight3 [Cert.Pre_finite.Facts] (a : FVec Ideal S2x128x128 .f32) (h : AllReal (shapeCast S128x128 (extractStridedSlice S1x128x128 ![0, 0, 0] a slices_S2x128x128_S1x128x128_0_0_0) shapeCasts_S1x128x128_S128x128)) :
    IsReal (mat3 a 0) := by
  intro i j
  have e := h (ix2 i j)
  pointwise at e
  exact e

end Cert.Net.Pre

end

end
-- ==== Proof.RefOps.lean ====
/- What the reference computes, as matrices over the extended reals. -/
module

public import proofs.«01_k».proof.Proof.Mats
public import proofs.«01_k».proof.Proof.Gen.ReferenceIdeal.Run

@[expose] public section

set_option maxRecDepth 16384

noncomputable section

namespace Cert.Net.Ref

open Idealize.ShloMosaic Idealize.ShloMosaic.TcCoe
open Cert.ReferenceIdeal Cert.ReferenceIdeal.Gen Cert.ReferenceIdeal.Value

/-! The contractions are plain matrix products. -/

theorem plain_2048_128_128 : dot_S2048x128_S128x128_S2048x128_1_0_0_1_n_n = DotDims.plain 2048 128 128 := rfl
theorem plain_256_2048_128 : dot_S256x2048_S2048x128_S256x128_1_0_0_1_n_n = DotDims.plain 256 2048 128 := rfl
theorem plain_2048_256_128 : dot_S2048x256_S256x128_S2048x128_1_0_0_1_n_n = DotDims.plain 2048 256 128 := rfl
theorem plain_2048_6144_128 : dot_S2048x6144_S6144x128_S2048x128_1_0_0_1_n_n = DotDims.plain 2048 6144 128 := rfl
theorem plain_6144_128_128 : dot_S6144x128_S128x128_S6144x128_1_0_0_1_n_n = DotDims.plain 6144 128 128 := rfl
theorem plain_256_6144_128 : dot_S256x6144_S6144x128_S256x128_1_0_0_1_n_n = DotDims.plain 256 6144 128 := rfl
theorem plain_6144_256_128 : dot_S6144x256_S256x128_S6144x128_1_0_0_1_n_n = DotDims.plain 6144 256 128 := rfl
theorem plain_6144_2048_128 : dot_S6144x2048_S2048x128_S6144x128_1_0_0_1_n_n = DotDims.plain 6144 2048 128 := rfl
theorem plain_6144_4096_128 : dot_S6144x4096_S4096x128_S6144x128_1_0_0_1_n_n = DotDims.plain 6144 4096 128 := rfl
theorem plain_2048_128_9 : dot_S2048x128_S128x9_S2048x9_1_0_0_1_n_n = DotDims.plain 2048 128 9 := rfl

/-! Transposes. -/

theorem mat_tr_2048_256 (A : FVec Ideal S2048x256 .f32) :
    mat (transpose S256x2048 [1, 0] A transposes_S2048x256_S256x2048_1_0) = tr (mat A) := by
  funext i j; unfold mat tr; pointwise

theorem mat_tr_6144_256 (A : FVec Ideal S6144x256 .f32) :
    mat (transpose S256x6144 [1, 0] A transposes_S6144x256_S256x6144_1_0) = tr (mat A) := by
  funext i j; unfold mat tr; pointwise

theorem mat_tr_2048_6144 (A : FVec Ideal S2048x6144 .f32) :
    mat (transpose S6144x2048 [1, 0] A transposes_S2048x6144_S6144x2048_1_0) = tr (mat A) := by
  funext i j; unfold mat tr; pointwise

/-- The eigenvalues laid along the rows, times a matrix, scale its rows. -/
theorem mat_scale (e : FVec Ideal S256 .f32) (A : FVec Ideal S256x128 .f32) :
    mat (mulf (broadcastInDim S256x128 ![0, 1] bcast_S256x1_S256x128_0_1 (broadcastInDim S256x1 ![0] bcast_S256_S256x1_0 e)) A)
      = scale (vec e) (mat A) := by
  funext i j; unfold mat scale vec; pointwise

theorem vec_sq (e : FVec Ideal S256 .f32) : vec (mulf e e) = sq (vec e) := rfl

/-- The bias laid along every row. -/
theorem mat_rows (b : FVec Ideal S9 .f32) :
    mat (broadcastInDim S2048x9 ![0, 1] bcast_S1x9_S2048x9_0_1 (broadcastInDim S1x9 ![1] bcast_S9_S1x9_1 b)) = fun _ j => vec b j := by
  funext i j; unfold mat vec; pointwise

/-! The logistic function. -/

theorem mat_lgs_2048 (x : FVec Ideal S2048x128 .f32) :
    mat (Host.divf (broadcastInDim S2048x128 ![] bcast_S_S2048x128 (constant S_ .f32 0x3F800000#32))
      (addf (broadcastInDim S2048x128 ![] bcast_S_S2048x128 (constant S_ .f32 0x3F800000#32)) (Host.exp (Host.negf x))))
      = lgs (mat x) := mat_lgs x _

theorem mat_lgs_6144 (x : FVec Ideal S6144x128 .f32) :
    mat (Host.divf (broadcastInDim S6144x128 ![] bcast_S_S6144x128 (constant S_ .f32 0x3F800000#32))
      (addf (broadcastInDim S6144x128 ![] bcast_S_S6144x128 (constant S_ .f32 0x3F800000#32)) (Host.exp (Host.negf x))))
      = lgs (mat x) := mat_lgs x _

/-! The weights of one layer. -/

theorem w0_00 (W : FVec Ideal S2x3x128x128 .f32) :
    mat (shapeCast S128x128 (extractStridedSlice S1x1x128x128 ![0, 0, 0, 0] W slices_S2x3x128x128_S1x1x128x128_0_0_0_0)
      shapeCasts_S1x1x128x128_S128x128) = mat4 W 0 0 := by
  funext i j; unfold mat mat4; pointwise

theorem w0_01 (W : FVec Ideal S2x3x128x128 .f32) :
    mat (shapeCast S128x128 (extractStridedSlice S1x1x128x128 ![0, 1, 0, 0] W slices_S2x3x128x128_S1x1x128x128_0_1_0_0)
      shapeCasts_S1x1x128x128_S128x128) = mat4 W 0 1 := by
  funext i j; unfold mat mat4; pointwise

theorem w0_02 (W : FVec Ideal S2x3x128x128 .f32) :
    mat (shapeCast S128x128 (extractStridedSlice S1x1x128x128 ![0, 2, 0, 0] W slices_S2x3x128x128_S1x1x128x128_0_2_0_0)
      shapeCasts_S1x1x128x128_S128x128) = mat4 W 0 2 := by
  funext i j; unfold mat mat4; pointwise

theorem w0_10 (W : FVec Ideal S2x3x128x128 .f32) :
    mat (shapeCast S128x128 (extractStridedSlice S1x1x128x128 ![1, 0, 0, 0] W slices_S2x3x128x128_S1x1x128x128_1_0_0_0)
      shapeCasts_S1x1x128x128_S128x128) = mat4 W 1 0 := by
  funext i j; unfold mat mat4; pointwise

theorem w0_11 (W : FVec Ideal S2x3x128x128 .f32) :
    mat (shapeCast S128x128 (extractStridedSlice S1x1x128x128 ![1, 1, 0, 0] W slices_S2x3x128x128_S1x1x128x128_1_1_0_0)
      shapeCasts_S1x1x128x128_S128x128) = mat4 W 1 1 := by
  funext i j; unfold mat mat4; pointwise

theorem w0_12 (W : FVec Ideal S2x3x128x128 .f32) :
    mat (shapeCast S128x128 (extractStridedSlice S1x1x128x128 ![1, 2, 0, 0] W slices_S2x3x128x128_S1x1x128x128_1_2_0_0)
      shapeCasts_S1x1x128x128_S128x128) = mat4 W 1 2 := by
  funext i j; unfold mat mat4; pointwise

theorem w1_00 (W : FVec Ideal S2x2x128x128 .f32) :
    mat (shapeCast S128x128 (extractStridedSlice S1x1x128x128 ![0, 0, 0, 0] W slices_S2x2x128x128_S1x1x128x128_0_0_0_0)
      shapeCasts_S1x1x128x128_S128x128) = mat4 W 0 0 := by
  funext i j; unfold mat mat4; pointwise

theorem w1_01 (W : FVec Ideal S2x2x128x128 .f32) :
    mat (shapeCast S128x128 (extractStridedSlice S1x1x128x128 ![0, 1, 0, 0] W slices_S2x2x128x128_S1x1x128x128_0_1_0_0)
      shapeCasts_S1x1x128x128_S128x128) = mat4 W 0 1 := by
  funext i j; unfold mat mat4; pointwise

theorem w_0 (W : FVec Ideal S2x128x128 .f32) :
    mat (shapeCast S128x128 (extractStridedSlice S1x128x128 ![0, 0, 0] W slices_S2x128x128_S1x128x128_0_0_0)
      shapeCasts_S1x128x128_S128x128) = mat3 W 0 := by
  funext i j; unfold mat mat3; pointwise

theorem w_1 (W : FVec Ideal S2x128x128 .f32) :
    mat (shapeCast S128x128 (extractStridedSlice S1x128x128 ![1, 0, 0] W slices_S2x128x128_S1x128x128_1_0_0)
      shapeCasts_S1x128x128_S128x128) = mat3 W 1 := by
  funext i j; unfold mat mat3; pointwise

end Cert.Net.Ref

end

end
-- ==== Proof.Ref.lean ====
/- What the reference computes: two layers of a simplicial network and a readout, as matrices. -/
module

public import proofs.«01_k».proof.Proof.RefOps

@[expose] public section

set_option maxRecDepth 16384

noncomputable section

namespace Cert.Net.Ref

open Idealize.ShloMosaic Idealize.ShloMosaic.TcCoe
open Cert.ReferenceIdeal Cert.ReferenceIdeal.Gen Cert.ReferenceIdeal.Value

variable (V : Valuation τ sig (Elt Ideal))

/-- The reference's arguments as matrices. -/
def inputs : Inputs where
  x0 := mat (φ := .f32) (n := 2048) (m := 128) (V (Proc.devRef .tc main_arg0))
  x1 := mat (φ := .f32) (n := 6144) (m := 128) (V (Proc.devRef .tc main_arg1))
  x2 := mat (φ := .f32) (n := 4096) (m := 128) (V (Proc.devRef .tc main_arg2))
  e := vec (φ := .f32) (n := 256) (V (Proc.devRef .tc main_arg3))
  E := mat (φ := .f32) (n := 2048) (m := 256) (V (Proc.devRef .tc main_arg4))
  d := vec (φ := .f32) (n := 256) (V (Proc.devRef .tc main_arg5))
  D := mat (φ := .f32) (n := 6144) (m := 256) (V (Proc.devRef .tc main_arg6))
  u := vec (φ := .f32) (n := 256) (V (Proc.devRef .tc main_arg7))
  U := mat (φ := .f32) (n := 6144) (m := 256) (V (Proc.devRef .tc main_arg8))
  B := mat (φ := .f32) (n := 2048) (m := 6144) (V (Proc.devRef .tc main_arg13))
  C := mat (φ := .f32) (n := 6144) (m := 4096) (V (Proc.devRef .tc main_arg14))
  W0 := fun p q => mat4 (φ := .f32) (a := 2) (b := 3) (n := 128) (m := 128) (V (Proc.devRef .tc main_arg15)) p q
  W10 := fun p => mat3 (φ := .f32) (a := 2) (n := 128) (m := 128) (V (Proc.devRef .tc main_arg16)) p
  W1id := fun p => mat3 (φ := .f32) (a := 2) (n := 128) (m := 128) (V (Proc.devRef .tc main_arg17)) p
  W1d := fun p q => mat4 (φ := .f32) (a := 2) (b := 2) (n := 128) (m := 128) (V (Proc.devRef .tc main_arg18)) p q
  W1u := fun p q => mat4 (φ := .f32) (a := 2) (b := 2) (n := 128) (m := 128) (V (Proc.devRef .tc main_arg19)) p q
  W01 := fun p => mat3 (φ := .f32) (a := 2) (n := 128) (m := 128) (V (Proc.devRef .tc main_arg20)) p
  W21 := fun p => mat3 (φ := .f32) (a := 2) (n := 128) (m := 128) (V (Proc.devRef .tc main_arg21)) p
  Wout := mat (φ := .f32) (n := 128) (m := 9) (V (Proc.devRef .tc main_arg26))
  bout := vec (φ := .f32) (n := 9) (V (Proc.devRef .tc main_arg27))

/-- The node features after the first layer. -/
theorem nodes : mat (φ := .f32) (n := 2048) (m := 128) (res_main_v141 V) = (inputs V).refX0 := by
  unfold res_main_v141 Inputs.refX0 refNodes coeff inputs
  refine (mat_lgs_2048 _).trans (congrArg lgs ?_)
  simp only [mat_addf, mat_dot, plain_2048_128_128, plain_256_2048_128, plain_2048_256_128, plain_2048_6144_128, plain_6144_128_128, plain_256_6144_128, plain_6144_256_128, plain_6144_2048_128, plain_6144_4096_128, plain_2048_128_9, w0_00, w0_01, w0_02, w_0]
  rw [mat_scale, mat_scale, vec_sq, mat_dot, mat_tr_2048_256]

/-- The edge features after the first layer. -/
theorem edges : mat (φ := .f32) (n := 6144) (m := 128) (res_main_v147 V) = (inputs V).refX1 := by
  unfold res_main_v147 res_main_v145 Inputs.refX1 refEdges coeff inputs
  refine (mat_lgs_6144 _).trans (congrArg lgs ?_)
  simp only [mat_addf, mat_dot, plain_2048_128_128, plain_256_2048_128, plain_2048_256_128, plain_2048_6144_128, plain_6144_128_128, plain_256_6144_128, plain_6144_256_128, plain_6144_2048_128, plain_6144_4096_128, plain_2048_128_9, w1_00, w1_01, w_0]
  rw [mat_scale, mat_scale, mat_scale, mat_scale, vec_sq, vec_sq, mat_dot, mat_dot, mat_tr_6144_256, mat_tr_6144_256, mat_tr_2048_6144]

/-- The logits. -/
theorem result : mat (φ := .f32) (n := 2048) (m := 9) (val6 V (Proc.devRef .tc main_v311)) = (inputs V).refOut := by
  rw [val6_main_v311]
  unfold Inputs.refOut
  rw [mat_addf, plain_2048_128_9, mat_dot, mat_rows, mat_lgs_2048, ← nodes V, ← edges V]
  unfold refNodes coeff inputs Inputs.bias
  simp only [mat_addf, mat_dot, plain_2048_128_128, plain_256_2048_128, plain_2048_256_128, plain_2048_6144_128, plain_6144_128_128, plain_256_6144_128, plain_6144_256_128, plain_6144_2048_128, plain_6144_4096_128, plain_2048_128_9, w0_10, w0_11, w0_12, w_1]
  rw [mat_scale, mat_scale, vec_sq, mat_dot, mat_tr_2048_256]

end Cert.Net.Ref

end

end
-- ==== Proof.Blocks.lean ====
/- Matrices by blocks of rows: cutting, pasting, and products of blocks. -/
module

public import proofs.«01_k».proof.Proof.Algebra

@[expose] public section

noncomputable section

namespace Cert.Net

variable {n m k l : ℕ}

/-- The `k` rows of `A` from row `o` on (zero past the last row). -/
def rowsAt (A : Mat n m) (o k : ℕ) : Mat k m := fun i j => if h : o + i.val < n then A ⟨o + i.val, h⟩ j else 0

/-- `A` with the rows from `o` on replaced by `W`'s. -/
def paste (A : Mat n m) (o : ℕ) (W : Mat k m) : Mat n m := fun i j =>
  if h : o ≤ i.val ∧ i.val < o + k then W ⟨i.val - o, by omega⟩ j else A i j

/-- `Z` on the first `256 * b` rows, `A` below. -/
def fill (A Z : Mat n m) (b : ℕ) : Mat n m := fun i j => if i.val < 256 * b then Z i j else A i j

theorem rowsAt_zero (A : Mat n m) : rowsAt A 0 n = A := by
  funext i j; simp [rowsAt]

theorem rowsAt_add (A B : Mat n m) (o : ℕ) : rowsAt (A + B) o k = rowsAt A o k + rowsAt B o k := by
  funext i j
  simp only [rowsAt, Pi.add_apply]
  split <;> simp

/-- The rows of a product are the product with those rows. -/
theorem mm_rowsAt (A : Mat n l) (B : Mat l m) (o : ℕ) : mm (rowsAt A o k) B = rowsAt (mm A B) o k := by
  funext i j
  simp only [rowsAt, mm]
  split <;> simp

theorem paste_all (A W : Mat n m) : paste A 0 W = W := by
  funext i j; simp [paste]

theorem rowsAt_paste (A : Mat n m) (o : ℕ) (W : Mat k m) (h : o + k ≤ n) : rowsAt (paste A o W) o k = W := by
  funext i j
  have h1 : o + i.val < n := by omega
  simp [rowsAt, paste, h1]

theorem rowsAt_paste_of_disjoint (A : Mat n m) (o o' : ℕ) (W : Mat k m) (h : o' + l ≤ o ∨ o + k ≤ o') :
    rowsAt (paste A o W) o' l = rowsAt A o' l := by
  funext i j
  have h1 : ¬(o ≤ o' + i.val ∧ o' + i.val < o + k) := by omega
  simp [rowsAt, paste, h1]

theorem fill_zero (A Z : Mat n m) : fill A Z 0 = A := by
  funext i j; simp [fill]

theorem fill_all (A Z : Mat n m) (b : ℕ) (h : n ≤ 256 * b) : fill A Z b = Z := by
  funext i j
  have : i.val < 256 * b := by omega
  simp [fill, this]

/-- One more block. -/
theorem paste_fill (A Z : Mat n m) (b o : ℕ) (ho : o = 256 * b) : paste (fill A Z b) o (rowsAt Z o 256) = fill A Z (b + 1) := by
  subst ho
  funext i j
  have hi := i.isLt
  by_cases h : 256 * b ≤ i.val ∧ i.val < 256 * b + 256
  · have h1 : i.val < 256 * (b + 1) := by omega
    have h2 : 256 * b + (i.val - 256 * b) = i.val := by omega
    simp [paste, fill, rowsAt, h, h1, h2]
  · have h3 : i.val < 256 * (b + 1) ↔ i.val < 256 * b := by omega
    simp [paste, fill, h, h3]

theorem rowsAt_fill (A Z : Mat n m) (b o : ℕ) (ho : o = 256 * b) : rowsAt (fill A Z b) o k = rowsAt A o k := by
  subst ho
  funext i j
  simp [rowsAt, fill]

/-- One more block of a sum. -/
theorem paste_fill_add (A Z : Mat n m) (b o : ℕ) (ho : o = 256 * b) :
    paste (fill A (A + Z) b) o (rowsAt (fill A (A + Z) b) o 256 + rowsAt Z o 256) = fill A (A + Z) (b + 1) := by
  rw [rowsAt_fill A _ b o ho, ← rowsAt_add, paste_fill _ _ _ _ ho]

/-- A product over 2048 summands is the sum of eight products over 256. -/
theorem mm_tr_blocks (A : Mat 2048 n) (B : Mat 2048 m) :
    mm (tr (rowsAt A 0 256)) (rowsAt B 0 256) + mm (tr (rowsAt A 256 256)) (rowsAt B 256 256)
      + mm (tr (rowsAt A 512 256)) (rowsAt B 512 256) + mm (tr (rowsAt A 768 256)) (rowsAt B 768 256)
      + mm (tr (rowsAt A 1024 256)) (rowsAt B 1024 256) + mm (tr (rowsAt A 1280 256)) (rowsAt B 1280 256)
      + mm (tr (rowsAt A 1536 256)) (rowsAt B 1536 256) + mm (tr (rowsAt A 1792 256)) (rowsAt B 1792 256) = mm (tr A) B := by
  funext i j
  have e : (mm (tr A) B) i j = ∑ b : Fin 8, ∑ r : Fin 256, A (finProdFinEquiv (b, r)) i * B (finProdFinEquiv (b, r)) j := by
    unfold mm tr
    exact ((finProdFinEquiv (m := 8) (n := 256)).sum_comp fun a => A a i * B a j).symm.trans (Fintype.sum_prod_type _)
  rw [e, Fin.sum_univ_eight]
  simp only [Pi.add_apply]
  have t : ∀ (o : ℕ) (b : Fin 8) (_ : o = 256 * b.val), mm (tr (rowsAt A o 256)) (rowsAt B o 256) i j
      = ∑ r : Fin 256, A (finProdFinEquiv (b, r)) i * B (finProdFinEquiv (b, r)) j := by
    intro o b ho
    unfold mm tr rowsAt
    refine Finset.sum_congr rfl fun r _ => ?_
    have hb := b.isLt
    have hr := r.isLt
    have h : o + r.val < 2048 := by omega
    have q : (⟨o + r.val, h⟩ : Fin 2048) = finProdFinEquiv (b, r) := by
      apply Fin.ext; simp [finProdFinEquiv]; omega
    simp only [h, dif_pos, q]
  rw [t 0 0 rfl, t 256 1 rfl, t 512 2 rfl, t 768 3 rfl, t 1024 4 rfl, t 1280 5 rfl, t 1536 6 rfl, t 1792 7 rfl]

end Cert.Net

end

end
-- ==== Proof.Reads.lean ====
/- What stores of blocks of rows leave in a buffer of rank two and what loads of blocks of rows read, as matrices. -/
module

public import proofs.«01_k».proof.Proof.Mats
public import proofs.«01_k».proof.Proof.Blocks
public import Idealize.ShloMosaic.Lib.Pipeline.FrameBody
public import Idealize.ShloMosaic.Lib.Pipeline.Value

@[expose] public section

set_option maxRecDepth 16384

noncomputable section

namespace Cert.Net

open Idealize.ShloMosaic

variable {n m k : ℕ}

section Entries

variable {Val : EltTy → Type} [∀ e, Nonempty (Val e)] {e : EltTy}

/-- Entry by entry, a store of `k` rows at row `o` over what the earlier stores left. -/
theorem canon_rows (o : ℕ) (inb : ∀ a, (![o, 0] : Fin 2 → ℕ) a + (⟨2, ![k, m]⟩ : Shape).size a ≤ (⟨2, ![n, m]⟩ : Shape).size a)
    (w : (⟨2, ![k, m]⟩ : Shape).Idx → Val e) (L : List (View.Piece Val ⟨2, ![n, m]⟩ e)) (i : Fin n) (j : Fin m) :
    View.canon (s := ⟨2, ![n, m]⟩) (⟨Rect.unit (s := ⟨2, ![n, m]⟩) ![o, 0] (⟨2, ![k, m]⟩ : Shape).size inb, w⟩ :: L) (ix2 i j)
      = if h : o ≤ i.val ∧ i.val < o + k then w (ix2 (⟨i.val - o, by omega⟩ : Fin k) j) else View.canon L (ix2 i j) := by
  by_cases h : o ≤ i.val ∧ i.val < o + k
  · rw [dif_pos h]
    have e : (ix2 i j : (⟨2, ![n, m]⟩ : Shape).Idx)
        = (Rect.unit (s := ⟨2, ![n, m]⟩) ![o, 0] (⟨2, ![k, m]⟩ : Shape).size inb).emb (ix2 (⟨i.val - o, by omega⟩ : Fin k) j) := by
      funext a; apply Fin.ext; fin_cases a
      · show i.val = o + 1 * (i.val - o); omega
      · show j.val = 0 + 1 * j.val; omega
    rw [e]
    exact View.canon_cons_emb _ _ _ _
  · rw [dif_neg h]
    refine View.canon_cons_of_not_mem _ _ fun hm => h ?_
    obtain ⟨x, hx⟩ := (Rect.unit (s := ⟨2, ![n, m]⟩) ![o, 0] (⟨2, ![k, m]⟩ : Shape).size inb).exists_idx_of_mem hm
    have h0 := congrArg (fun y : (⟨2, ![n, m]⟩ : Shape).Idx => (y 0).val) hx
    have h1 : o + 1 * (x 0).val = i.val := h0
    have h2 : (x 0).val < k := (x 0).isLt
    omega

/-- Entry by entry, a load of `k` rows from row `o` of an array. -/
theorem ld_rows (X : (⟨2, ![n, m]⟩ : Shape).Idx → Val e) (o : ℕ)
    (inb : ∀ a, (![o, 0] : Fin 2 → ℕ) a + (⟨2, ![k, m]⟩ : Shape).size a ≤ (⟨2, ![n, m]⟩ : Shape).size a) (i : Fin k) (j : Fin m)
    (h : o + i.val < n) :
    X ((Rect.unit (s := ⟨2, ![n, m]⟩) ![o, 0] (⟨2, ![k, m]⟩ : Shape).size inb).idx (ix2 i j)) = X (ix2 (⟨o + i.val, h⟩ : Fin n) j) := by
  refine congrArg X ?_
  funext a; apply Fin.ext; fin_cases a
  · show o + 1 * i.val = o + i.val; omega
  · show 0 + 1 * j.val = j.val; omega

end Entries

/-! At the format f32. -/

/-- The matrix the stores `L` leave. -/
def left32 (L : List (View.Piece (Elt Ideal) ⟨2, ![n, m]⟩ .f32)) : Mat n m := mat (φ := .f32) (View.canon L)

/-- A store of `k` rows at row `o`. -/
theorem left32_cons (o : ℕ) (inb : ∀ a, (![o, 0] : Fin 2 → ℕ) a + (⟨2, ![k, m]⟩ : Shape).size a ≤ (⟨2, ![n, m]⟩ : Shape).size a)
    (w : FVec Ideal ⟨2, ![k, m]⟩ .f32) (L : List (View.Piece (Elt Ideal) ⟨2, ![n, m]⟩ .f32)) :
    left32 (n := n) (m := m) (⟨Rect.unit (s := ⟨2, ![n, m]⟩) ![o, 0] (⟨2, ![k, m]⟩ : Shape).size inb, w⟩ :: L)
      = paste (left32 L) o (mat w) := by
  funext i j
  exact canon_rows o inb w L i j

/-- A store of the whole. -/
theorem left32_whole (w : FVec Ideal ⟨2, ![n, m]⟩ .f32) (L : List (View.Piece (Elt Ideal) ⟨2, ![n, m]⟩ .f32)) :
    left32 (n := n) (m := m) (⟨Rect.whole ⟨2, ![n, m]⟩, w⟩ :: L) = mat w := by
  funext i j
  have e := View.canon_cons_emb (Val := Elt Ideal) (Rect.whole ⟨2, ![n, m]⟩) w L (ix2 i j)
  rw [Rect.emb_whole_apply] at e
  exact e

/-- A load of `k` rows from row `o` of an array. -/
theorem mat32_ld (X : FVec Ideal ⟨2, ![n, m]⟩ .f32) (o : ℕ)
    (inb : ∀ a, (![o, 0] : Fin 2 → ℕ) a + (⟨2, ![k, m]⟩ : Shape).size a ≤ (⟨2, ![n, m]⟩ : Shape).size a) :
    mat (n := k) (m := m) (φ := .f32)
      (View.ld (Val := Elt Ideal) (e' := .f32) X (Rect.unit (s := ⟨2, ![n, m]⟩) ![o, 0] (⟨2, ![k, m]⟩ : Shape).size inb))
      = rowsAt (mat X) o k := by
  funext i j
  have hb : o + k ≤ n := inb 0
  have hi := i.isLt
  have h : o + i.val < n := by omega
  unfold rowsAt
  rw [dif_pos h]
  exact ld_rows (Val := Elt Ideal) (e := .f32) X o inb i j h

/-- A load of `k` rows from row `o` of what the stores `L` left. -/
theorem mat32_readCov {sig : RefSig} {κ : Kind} {sp : Space} (v : View sig κ sp ⟨2, ![n, m]⟩ .f32)
    (L : List (View.Piece (Elt Ideal) ⟨2, ![n, m]⟩ .f32)) (o : ℕ)
    (inb : ∀ a, (![o, 0] : Fin 2 → ℕ) a + (⟨2, ![k, m]⟩ : Shape).size a ≤ (⟨2, ![n, m]⟩ : Shape).size a) :
    mat (n := k) (m := m) (φ := .f32) (v.readCov L (Rect.unit (s := ⟨2, ![n, m]⟩) ![o, 0] (⟨2, ![k, m]⟩ : Shape).size inb).toLoadRect)
      = rowsAt (left32 L) o k := by
  rw [View.readCov_eq_canon']
  exact mat32_ld (View.canon L) o inb

/-! At the format bf16. -/

/-- The matrix the stores `L` leave. -/
def left16 (L : List (View.Piece (Elt Ideal) ⟨2, ![n, m]⟩ .bf16)) : Mat n m := mat (φ := .bf16) (View.canon L)

/-- A store of `k` rows at row `o`. -/
theorem left16_cons (o : ℕ) (inb : ∀ a, (![o, 0] : Fin 2 → ℕ) a + (⟨2, ![k, m]⟩ : Shape).size a ≤ (⟨2, ![n, m]⟩ : Shape).size a)
    (w : FVec Ideal ⟨2, ![k, m]⟩ .bf16) (L : List (View.Piece (Elt Ideal) ⟨2, ![n, m]⟩ .bf16)) :
    left16 (n := n) (m := m) (⟨Rect.unit (s := ⟨2, ![n, m]⟩) ![o, 0] (⟨2, ![k, m]⟩ : Shape).size inb, w⟩ :: L)
      = paste (left16 L) o (mat w) := by
  funext i j
  exact canon_rows o inb w L i j

/-- A store of the whole. -/
theorem left16_whole (w : FVec Ideal ⟨2, ![n, m]⟩ .bf16) (L : List (View.Piece (Elt Ideal) ⟨2, ![n, m]⟩ .bf16)) :
    left16 (n := n) (m := m) (⟨Rect.whole ⟨2, ![n, m]⟩, w⟩ :: L) = mat w := by
  funext i j
  have e := View.canon_cons_emb (Val := Elt Ideal) (Rect.whole ⟨2, ![n, m]⟩) w L (ix2 i j)
  rw [Rect.emb_whole_apply] at e
  exact e

/-- A load of `k` rows from row `o` of an array. -/
theorem mat16_ld (X : FVec Ideal ⟨2, ![n, m]⟩ .bf16) (o : ℕ)
    (inb : ∀ a, (![o, 0] : Fin 2 → ℕ) a + (⟨2, ![k, m]⟩ : Shape).size a ≤ (⟨2, ![n, m]⟩ : Shape).size a) :
    mat (n := k) (m := m) (φ := .bf16)
      (View.ld (Val := Elt Ideal) (e' := .bf16) X (Rect.unit (s := ⟨2, ![n, m]⟩) ![o, 0] (⟨2, ![k, m]⟩ : Shape).size inb))
      = rowsAt (mat X) o k := by
  funext i j
  have hb : o + k ≤ n := inb 0
  have hi := i.isLt
  have h : o + i.val < n := by omega
  unfold rowsAt
  rw [dif_pos h]
  exact ld_rows (Val := Elt Ideal) (e := .bf16) X o inb i j h

/-- A load of `k` rows from row `o` of what the stores `L` left. -/
theorem mat16_readCov {sig : RefSig} {κ : Kind} {sp : Space} (v : View sig κ sp ⟨2, ![n, m]⟩ .bf16)
    (L : List (View.Piece (Elt Ideal) ⟨2, ![n, m]⟩ .bf16)) (o : ℕ)
    (inb : ∀ a, (![o, 0] : Fin 2 → ℕ) a + (⟨2, ![k, m]⟩ : Shape).size a ≤ (⟨2, ![n, m]⟩ : Shape).size a) :
    mat (n := k) (m := m) (φ := .bf16) (v.readCov L (Rect.unit (s := ⟨2, ![n, m]⟩) ![o, 0] (⟨2, ![k, m]⟩ : Shape).size inb).toLoadRect)
      = rowsAt (left16 L) o k := by
  rw [View.readCov_eq_canon']
  exact mat16_ld (View.canon L) o inb

end Cert.Net

end

end
-- ==== Proof.KerOps.lean ====
/- The operations of the kernel, as matrices over the extended reals. -/
module

public import proofs.«01_k».proof.Proof.Reads
public import proofs.«01_k».proof.Proof.Gen.KernelIdeal.Skeleton

@[expose] public section

set_option maxRecDepth 16384

noncomputable section

namespace Cert.Net

open Idealize.ShloMosaic Idealize.ShloMosaic.TcCoe
open Idealize.ShloMosaic.ValueIdx (contrEquiv1 contrEquiv1_symm_val)

/-- A contraction of the rows of both operands: the left operand's transpose times the right one. -/
def rowsDot {k n m : ℕ} (w : DotDims.WF ⟨2, ![k, n]⟩ ⟨2, ![k, m]⟩ ⟨2, ![n, m]⟩ [0] [0] [1] [1] [] []) :
    DotDims ⟨2, ![k, n]⟩ ⟨2, ![k, m]⟩ ⟨2, ![n, m]⟩ where
  lhsContracting := [0]
  rhsContracting := [0]
  lhsNonContracting := [1]
  rhsNonContracting := [1]
  lhsBatch := []
  rhsBatch := []
  wf := w

theorem mat_rowsDot {k n m : ℕ} {φ ψ : FTy} (w : DotDims.WF ⟨2, ![k, n]⟩ ⟨2, ![k, m]⟩ ⟨2, ![n, m]⟩ [0] [0] [1] [1] [] [])
    (A : FVec Ideal ⟨2, ![k, n]⟩ φ) (B : FVec Ideal ⟨2, ![k, m]⟩ ψ) :
    mat (matmul (rowsDot w) none A B (constant ⟨2, ![n, m]⟩ .f32 0x00000000#32)) = mm (tr (mat A)) (mat B) := by
  rw [matmul_zero_eq_dotGeneral]
  funext i j
  show FloatOps.dotGeneral _ none _ A B (ix2 i j) = _
  rw [Ideal.dotGeneral_apply, ← Equiv.sum_comp (contrEquiv1 (rowsDot w) k rfl rfl).symm]
  unfold mm tr
  refine Finset.sum_congr rfl fun c _ => ?_
  have c2 := contrEquiv1_symm_val (rowsDot w) k rfl rfl c
  have l2 : (rowsDot w).lhsIdx (ix2 i j) ((contrEquiv1 _ k rfl rfl).symm c) = ix2 c i := by
    funext ax; apply Fin.ext
    match ax with
    | ⟨0, _⟩ => simp [DotDims.lhsIdx, rowsDot]; exact c2
    | ⟨1, _⟩ => simp [DotDims.lhsIdx, rowsDot]; rfl
  have r2 : (rowsDot w).rhsIdx (ix2 i j) ((contrEquiv1 _ k rfl rfl).symm c) = ix2 c j := by
    funext ax; apply Fin.ext
    match ax with
    | ⟨0, _⟩ => simp [DotDims.rhsIdx, rowsDot]; exact c2
    | ⟨1, _⟩ => simp [DotDims.rhsIdx, rowsDot]; rfl
  rw [l2, r2]
  rfl

namespace Ker

open Cert.KernelIdeal Cert.KernelIdeal.Gen

/-! The contractions. -/

theorem p1 : dot_S2048x128_S128x128_S2048x128_1_0_0_1_n_n = DotDims.plain 2048 128 128 := rfl
theorem p2 : dot_S6144x128_S128x128_S6144x128_1_0_0_1_n_n = DotDims.plain 6144 128 128 := rfl
theorem p3 : dot_S4096x128_S128x128_S4096x128_1_0_0_1_n_n = DotDims.plain 4096 128 128 := rfl
theorem p4 : dot_S256x128_S128x128_S256x128_1_0_0_1_n_n = DotDims.plain 256 128 128 := rfl
theorem p5 : dot_S256x6144_S6144x128_S256x128_1_0_0_1_n_n = DotDims.plain 256 6144 128 := rfl
theorem p6 : dot_S256x4096_S4096x128_S256x128_1_0_0_1_n_n = DotDims.plain 256 4096 128 := rfl
theorem p7 : dot_S2048x256_S256x128_S2048x128_1_0_0_1_n_n = DotDims.plain 2048 256 128 := rfl
theorem p8 : dot_S6144x256_S256x128_S6144x128_1_0_0_1_n_n = DotDims.plain 6144 256 128 := rfl
theorem p9 : dot_S2048x128_S128x9_S2048x9_1_0_0_1_n_n = DotDims.plain 2048 128 9 := rfl
theorem t1 : dot_S2048x256_S2048x128_S256x128_0_0_1_1_n_n = rowsDot dot_S2048x256_S2048x128_S256x128_0_0_1_1_n_n_wf := rfl
theorem t2 : dot_S6144x256_S6144x128_S256x128_0_0_1_1_n_n = rowsDot dot_S6144x256_S6144x128_S256x128_0_0_1_1_n_n_wf := rfl
theorem t3 : dot_S256x6144_S256x128_S6144x128_0_0_1_1_n_n = rowsDot dot_S256x6144_S256x128_S6144x128_0_0_1_1_n_n_wf := rfl

/-! Products with what they read, as matrices. -/

theorem dot1 (A : FVec Ideal S2048x128 .f32) (B : FVec Ideal S128x128 .f32) :
    mat (matmul dot_S2048x128_S128x128_S2048x128_1_0_0_1_n_n none A B (constant S2048x128 .f32 0x00000000#32)) = mm (mat A) (mat B) := by
  rw [p1]; exact mat_matmul A B
theorem dot2 (A : FVec Ideal S6144x128 .f32) (B : FVec Ideal S128x128 .f32) :
    mat (matmul dot_S6144x128_S128x128_S6144x128_1_0_0_1_n_n none A B (constant S6144x128 .f32 0x00000000#32)) = mm (mat A) (mat B) := by
  rw [p2]; exact mat_matmul A B
theorem dot3 (A : FVec Ideal S4096x128 .f32) (B : FVec Ideal S128x128 .f32) :
    mat (matmul dot_S4096x128_S128x128_S4096x128_1_0_0_1_n_n none A B (constant S4096x128 .f32 0x00000000#32)) = mm (mat A) (mat B) := by
  rw [p3]; exact mat_matmul A B
theorem dot4 (A : FVec Ideal S256x128 .f32) (B : FVec Ideal S128x128 .f32) :
    mat (matmul dot_S256x128_S128x128_S256x128_1_0_0_1_n_n none A B (constant S256x128 .f32 0x00000000#32)) = mm (mat A) (mat B) := by
  rw [p4]; exact mat_matmul A B
theorem dot5 (A : FVec Ideal S256x6144 .bf16) (B : FVec Ideal S6144x128 .bf16) :
    mat (matmul dot_S256x6144_S6144x128_S256x128_1_0_0_1_n_n none A B (constant S256x128 .f32 0x00000000#32)) = mm (mat A) (mat B) := by
  rw [p5]; exact mat_matmul A B
theorem dot6 (A : FVec Ideal S256x4096 .bf16) (B : FVec Ideal S4096x128 .bf16) :
    mat (matmul dot_S256x4096_S4096x128_S256x128_1_0_0_1_n_n none A B (constant S256x128 .f32 0x00000000#32)) = mm (mat A) (mat B) := by
  rw [p6]; exact mat_matmul A B
theorem dot7 (A : FVec Ideal S2048x256 .bf16) (B : FVec Ideal S256x128 .bf16) :
    mat (matmul dot_S2048x256_S256x128_S2048x128_1_0_0_1_n_n none A B (constant S2048x128 .f32 0x00000000#32)) = mm (mat A) (mat B) := by
  rw [p7]; exact mat_matmul A B
theorem dot8 (A : FVec Ideal S6144x256 .bf16) (B : FVec Ideal S256x128 .bf16) :
    mat (matmul dot_S6144x256_S256x128_S6144x128_1_0_0_1_n_n none A B (constant S6144x128 .f32 0x00000000#32)) = mm (mat A) (mat B) := by
  rw [p8]; exact mat_matmul A B
theorem dot9 (A : FVec Ideal S2048x128 .f32) (B : FVec Ideal S128x9 .f32) :
    mat (matmul dot_S2048x128_S128x9_S2048x9_1_0_0_1_n_n none A B (constant S2048x9 .f32 0x00000000#32)) = mm (mat A) (mat B) := by
  rw [p9]; exact mat_matmul A B
theorem tdot1 (A : FVec Ideal S2048x256 .bf16) (B : FVec Ideal S2048x128 .bf16) :
    mat (matmul dot_S2048x256_S2048x128_S256x128_0_0_1_1_n_n none A B (constant S256x128 .f32 0x00000000#32)) = mm (tr (mat A)) (mat B) := by
  rw [t1]; exact mat_rowsDot _ A B
theorem tdot2 (A : FVec Ideal S6144x256 .bf16) (B : FVec Ideal S6144x128 .bf16) :
    mat (matmul dot_S6144x256_S6144x128_S256x128_0_0_1_1_n_n none A B (constant S256x128 .f32 0x00000000#32)) = mm (tr (mat A)) (mat B) := by
  rw [t2]; exact mat_rowsDot _ A B
theorem tdot3 (A : FVec Ideal S256x6144 .bf16) (B : FVec Ideal S256x128 .bf16) :
    mat (matmul dot_S256x6144_S256x128_S6144x128_0_0_1_1_n_n none A B (constant S6144x128 .f32 0x00000000#32)) = mm (tr (mat A)) (mat B) := by
  rw [t3]; exact mat_rowsDot _ A B

/-! Reshapes to the same shape. -/

theorem same (s : Shape) {φ : FTy} (x : FVec Ideal s φ) (h : s.ShapeCasts s) : shapeCast s x h = x := shapeCast_self x h

/-! The eigenvalues, a column of a stack. -/

/-- A column as a family. -/
def col (v : FVec Ideal S256x1 .f32) : Fin 256 → EReal := fun i => v (ix2 i 0)

/-- A column laid along the rows scales them. -/
theorem mat_scale (v : FVec Ideal S256x1 .f32) (A : FVec Ideal S256x128 .f32) :
    mat (mulf (broadcastTo S256x128 v broadcasts_S256x1_S256x128) A) = scale (col v) (mat A) := by
  funext i j; unfold mat scale col; pointwise

theorem col_sq (v : FVec Ideal S256x1 .f32) : col (mulf v v) = sq (col v) := rfl

/-- The bias laid along every row. -/
theorem mat_bias (b : FVec Ideal S9 .f32) :
    mat (broadcastTo S2048x9 (shapeCast S1x9 b shapeCasts_S9_S1x9) broadcasts_S1x9_S2048x9) = fun _ j => vec b j := by
  funext i j; unfold mat vec; pointwise

/-- A member of a stack, reshaped to a matrix. -/
def face (v : FVec Ideal S1x128x128 .f32) : Mat 128 128 := fun i j => v (ix3 0 i j)

theorem mat_face (v : FVec Ideal S1x128x128 .f32) : mat (shapeCast S128x128 v shapeCasts_S1x128x128_S128x128) = face v := by
  funext i j; unfold mat face; pointwise

/-- A member of a stack of stacks, reshaped to a matrix. -/
def face2 (v : FVec Ideal S1x1x128x128 .f32) : Mat 128 128 := fun i j => v (ix4 0 0 i j)

theorem mat_face2 (v : FVec Ideal S1x1x128x128 .f32) :
    mat (shapeCast S128x128 v shapeCasts_S1x1x128x128_S128x128) = face2 v := by
  funext i j; unfold mat face2; pointwise

/-- A column of a stack, reshaped to a column. -/
def stalk (v : FVec Ideal S1x256x1 .f32) : Fin 256 → EReal := fun i => v (ix3 0 i 0)

theorem col_stalk (v : FVec Ideal S1x256x1 .f32) : col (shapeCast S256x1 v shapeCasts_S1x256x1_S256x1) = stalk v := by
  funext i; unfold col stalk; pointwise

end Ker

end Cert.Net

end

end
-- ==== Proof.Pays.lean ====
/- What each stored value of the kernel is, as a matrix. -/
module

public import proofs.«01_k».proof.Proof.KerOps

@[expose] public section

set_option maxRecDepth 16384

noncomputable section

namespace Cert.Net.Ker

open Idealize.ShloMosaic Idealize.ShloMosaic.TcCoe Cert.KernelIdeal Cert.KernelIdeal.Gen

theorem pay1 (v773 : FVec Ideal S2048x128 .f32) (v777 : FVec Ideal S2048x128 .f32) (v780 : FVec Ideal S128x9 .f32) (v782 : FVec Ideal S9 .f32) :
    mat (k0_pay1 v773 v777 v780 v782) = mm (lgs (mat v773 + mat v777)) (mat v780) + (fun _ j => vec v782 j) := by
  simp only [k0_pay1, same, dot9, mat_addf, mat_logistic]
  rw [mat_bias]

theorem pay2 (v6 : FVec Ideal S2048x128 .f32) (v8 : FVec Ideal S1x128x128 .f32) :
    mat (k0_pay2 v6 v8) = mm (mat v6) (face v8) := by
  simp only [k0_pay2, same, dot1, mat_truncf]
  rw [mat_face]

theorem pay3 (v7 : FVec Ideal S6144x128 .f32) (v15 : FVec Ideal S1x128x128 .f32) :
    mat (k0_pay3 v7 v15) = mm (mat v7) (face v15) := by
  simp only [k0_pay3, same, dot2, mat_truncf]
  rw [mat_face]

theorem pay4 (v22 : FVec Ideal S4096x128 .f32) (v23 : FVec Ideal S1x128x128 .f32) :
    mat (k0_pay4 v22 v23) = mm (mat v22) (face v23) := by
  simp only [k0_pay4, same, dot3, mat_truncf]
  rw [mat_face]

theorem pay5 (v26 : FVec Ideal S4096x128 .bf16) :
    mat (k0_pay5 v26) = mat v26 := by
  simp only [k0_pay5, same, mat_truncf]

theorem pay6 (v7 : FVec Ideal S6144x128 .f32) :
    mat (k0_pay6 v7) = mat v7 := by
  simp only [k0_pay6, same, mat_truncf]

theorem pay7 (v7 : FVec Ideal S6144x128 .f32) (v35 : FVec Ideal S6144x256 .f32) :
    mat (k0_pay7 v7 v35) = mm (tr (mat v35)) (mat v7) := by
  simp only [k0_pay7, k0_pay6, same, tdot2, mat_truncf]

theorem pay8 (v7 : FVec Ideal S6144x128 .f32) (v38 : FVec Ideal S6144x256 .f32) :
    mat (k0_pay8 v7 v38) = mm (tr (mat v38)) (mat v7) := by
  simp only [k0_pay8, k0_pay6, same, tdot2, mat_truncf]

theorem pay9 (v41 : FVec Ideal S1x256x1 .f32) :
    col (k0_pay9 v41) = stalk v41 := by
  simp only [k0_pay9, same]
  rw [col_stalk]

theorem pay10 (v6 : FVec Ideal S2048x128 .f32) (v31 : FVec Ideal S2048x256 .f32) (v41 : FVec Ideal S1x256x1 .f32) (v45 : FVec Ideal S1x1x128x128 .f32) (v51 : FVec Ideal S1x1x128x128 .f32) :
    mat (k0_pay10 v6 v31 v41 v45 v51) = mm (scale (stalk v41) (mm (tr (mat v31)) (mat v6))) (face2 v45) + mm (scale (sq (stalk v41)) (mm (tr (mat v31)) (mat v6))) (face2 v51) := by
  simp only [k0_pay10, k0_pay9, same, dot4, tdot1, mat_addf, mat_truncf]
  rw [mat_scale, mat_scale, col_sq, col_stalk, mat_face2, mat_face2, tdot1, mat_truncf, mat_truncf]

theorem pay11 (v37 : FVec Ideal S256x128 .f32) (v59 : FVec Ideal S1x256x1 .f32) (v65 : FVec Ideal S1x1x128x128 .f32) (v71 : FVec Ideal S1x1x128x128 .f32) :
    mat (k0_pay11 v37 v59 v65 v71) = mm (scale (stalk v59) (mat v37)) (face2 v65) + mm (scale (sq (stalk v59)) (mat v37)) (face2 v71) := by
  simp only [k0_pay11, same, dot4, mat_addf, mat_truncf]
  rw [mat_scale, mat_scale, col_sq, col_stalk, mat_face2, mat_face2]

theorem pay12 (v40 : FVec Ideal S256x128 .f32) (v61 : FVec Ideal S1x256x1 .f32) (v81 : FVec Ideal S1x1x128x128 .f32) (v87 : FVec Ideal S1x1x128x128 .f32) :
    mat (k0_pay12 v40 v61 v81 v87) = mm (scale (stalk v61) (mat v40)) (face2 v81) + mm (scale (sq (stalk v61)) (mat v40)) (face2 v87) := by
  simp only [k0_pay12, same, dot4, mat_addf]
  rw [mat_scale, mat_scale, col_sq, col_stalk, mat_face2, mat_face2]

theorem pay13 (v90 : FVec Ideal S256x128 .f32) :
    mat (k0_pay13 v90) = mat v90 := by
  simp only [k0_pay13, same, mat_truncf]

theorem pay14 (v98 : FVec Ideal S256x6144 .f32) :
    mat (k0_pay14 v98) = mat v98 := by
  simp only [k0_pay14, same, mat_truncf]

theorem pay15 (v98 : FVec Ideal S256x6144 .f32) (v100 : FVec Ideal S6144x128 .bf16) :
    mat (k0_pay15 v98 v100) = mm (mat v98) (mat v100) := by
  simp only [k0_pay15, k0_pay14, same, dot5, mat_truncf]

theorem pay16 (v98 : FVec Ideal S256x6144 .f32) (v105 : FVec Ideal S256x128 .bf16) :
    mat (k0_pay16 v98 v105) = mm (tr (mat v98)) (mat v105) := by
  simp only [k0_pay16, k0_pay14, same, tdot3, mat_truncf]

theorem pay17 (v116 : FVec Ideal S256x6144 .f32) :
    mat (k0_pay17 v116) = mat v116 := by
  simp only [k0_pay17, same, mat_truncf]

theorem pay18 (v117 : FVec Ideal S256x6144 .bf16) (v118 : FVec Ideal S6144x128 .bf16) :
    mat (k0_pay18 v117 v118) = mm (mat v117) (mat v118) := by
  simp only [k0_pay18, same, dot5]

theorem pay19 (v117 : FVec Ideal S256x6144 .bf16) (v123 : FVec Ideal S256x128 .bf16) (v125 : FVec Ideal S6144x128 .f32) :
    mat (k0_pay19 v117 v123 v125) = mat v125 + mm (tr (mat v117)) (mat v123) := by
  simp only [k0_pay19, same, tdot3, mat_addf]

theorem pay20 (v136 : FVec Ideal S256x6144 .f32) :
    mat (k0_pay20 v136) = mat v136 := by
  simp only [k0_pay20, same, mat_truncf]

theorem pay21 (v136 : FVec Ideal S256x6144 .f32) (v138 : FVec Ideal S6144x128 .bf16) :
    mat (k0_pay21 v136 v138) = mm (mat v136) (mat v138) := by
  simp only [k0_pay21, k0_pay20, same, dot5, mat_truncf]

theorem pay22 (v136 : FVec Ideal S256x6144 .f32) (v143 : FVec Ideal S256x128 .bf16) :
    mat (k0_pay22 v136 v143) = mm (tr (mat v136)) (mat v143) := by
  simp only [k0_pay22, k0_pay20, same, tdot3, mat_truncf]

theorem pay23 (v144 : FVec Ideal S6144x128 .f32) (v145 : FVec Ideal S6144x128 .f32) :
    mat (k0_pay23 v144 v145) = mat v145 + mat v144 := by
  simp only [k0_pay23, same, mat_addf]

theorem pay24 (v156 : FVec Ideal S256x6144 .f32) :
    mat (k0_pay24 v156) = mat v156 := by
  simp only [k0_pay24, same, mat_truncf]

theorem pay25 (v156 : FVec Ideal S256x6144 .f32) (v158 : FVec Ideal S6144x128 .bf16) :
    mat (k0_pay25 v156 v158) = mm (mat v156) (mat v158) := by
  simp only [k0_pay25, k0_pay24, same, dot5, mat_truncf]

theorem pay26 (v156 : FVec Ideal S256x6144 .f32) (v163 : FVec Ideal S256x128 .bf16) (v165 : FVec Ideal S6144x128 .f32) :
    mat (k0_pay26 v156 v163 v165) = mat v165 + mm (tr (mat v156)) (mat v163) := by
  simp only [k0_pay26, k0_pay24, same, tdot3, mat_addf, mat_truncf]

theorem pay27 (v176 : FVec Ideal S256x6144 .f32) :
    mat (k0_pay27 v176) = mat v176 := by
  simp only [k0_pay27, same, mat_truncf]

theorem pay28 (v176 : FVec Ideal S256x6144 .f32) (v178 : FVec Ideal S6144x128 .bf16) :
    mat (k0_pay28 v176 v178) = mm (mat v176) (mat v178) := by
  simp only [k0_pay28, k0_pay27, same, dot5, mat_truncf]

theorem pay29 (v176 : FVec Ideal S256x6144 .f32) (v183 : FVec Ideal S256x128 .bf16) (v185 : FVec Ideal S6144x128 .f32) :
    mat (k0_pay29 v176 v183 v185) = mat v185 + mm (tr (mat v176)) (mat v183) := by
  simp only [k0_pay29, k0_pay27, same, tdot3, mat_addf, mat_truncf]

theorem pay30 (v196 : FVec Ideal S256x6144 .f32) :
    mat (k0_pay30 v196) = mat v196 := by
  simp only [k0_pay30, same, mat_truncf]

theorem pay31 (v196 : FVec Ideal S256x6144 .f32) (v198 : FVec Ideal S6144x128 .bf16) :
    mat (k0_pay31 v196 v198) = mm (mat v196) (mat v198) := by
  simp only [k0_pay31, k0_pay30, same, dot5, mat_truncf]

theorem pay32 (v199 : FVec Ideal S256x128 .f32) :
    mat (k0_pay32 v199) = mat v199 := by
  simp only [k0_pay32, same, mat_truncf]

theorem pay33 (v197 : FVec Ideal S256x6144 .bf16) (v203 : FVec Ideal S256x128 .bf16) (v205 : FVec Ideal S6144x128 .f32) :
    mat (k0_pay33 v197 v203 v205) = mat v205 + mm (tr (mat v197)) (mat v203) := by
  simp only [k0_pay33, same, tdot3, mat_addf]

theorem pay34 (v216 : FVec Ideal S256x6144 .f32) :
    mat (k0_pay34 v216) = mat v216 := by
  simp only [k0_pay34, same, mat_truncf]

theorem pay35 (v216 : FVec Ideal S256x6144 .f32) (v218 : FVec Ideal S6144x128 .bf16) :
    mat (k0_pay35 v216 v218) = mm (mat v216) (mat v218) := by
  simp only [k0_pay35, k0_pay34, same, dot5, mat_truncf]

theorem pay36 (v216 : FVec Ideal S256x6144 .f32) (v223 : FVec Ideal S256x128 .bf16) (v225 : FVec Ideal S6144x128 .f32) :
    mat (k0_pay36 v216 v223 v225) = mat v225 + mm (tr (mat v216)) (mat v223) := by
  simp only [k0_pay36, k0_pay34, same, tdot3, mat_addf, mat_truncf]

theorem pay37 (v226 : FVec Ideal S6144x128 .f32) :
    mat (k0_pay37 v226) = mat v226 := by
  simp only [k0_pay37, same, mat_truncf]

theorem pay38 (v236 : FVec Ideal S256x6144 .f32) :
    mat (k0_pay38 v236) = mat v236 := by
  simp only [k0_pay38, same, mat_truncf]

theorem pay39 (v236 : FVec Ideal S256x6144 .f32) (v238 : FVec Ideal S6144x128 .bf16) :
    mat (k0_pay39 v236 v238) = mm (mat v236) (mat v238) := by
  simp only [k0_pay39, k0_pay38, same, dot5, mat_truncf]

theorem pay40 (v236 : FVec Ideal S256x6144 .f32) (v243 : FVec Ideal S256x128 .bf16) (v245 : FVec Ideal S6144x128 .f32) :
    mat (k0_pay40 v236 v243 v245) = mat v245 + mm (tr (mat v236)) (mat v243) := by
  simp only [k0_pay40, k0_pay38, same, tdot3, mat_addf, mat_truncf]

theorem pay41 (v256 : FVec Ideal S256x4096 .f32) (v258 : FVec Ideal S256x128 .f32) (v259 : FVec Ideal S4096x128 .bf16) :
    mat (k0_pay41 v256 v258 v259) = mat v258 + mm (mat v256) (mat v259) := by
  simp only [k0_pay41, same, dot6, mat_addf, mat_truncf]

theorem pay42 (v271 : FVec Ideal S256x4096 .f32) (v273 : FVec Ideal S256x128 .f32) (v274 : FVec Ideal S4096x128 .bf16) :
    mat (k0_pay42 v271 v273 v274) = mat v273 + mm (mat v271) (mat v274) := by
  simp only [k0_pay42, same, dot6, mat_addf, mat_truncf]

theorem pay43 (v286 : FVec Ideal S256x4096 .f32) (v288 : FVec Ideal S256x128 .f32) (v289 : FVec Ideal S4096x128 .bf16) :
    mat (k0_pay43 v286 v288 v289) = mat v288 + mm (mat v286) (mat v289) := by
  simp only [k0_pay43, same, dot6, mat_addf, mat_truncf]

theorem pay44 (v301 : FVec Ideal S256x4096 .f32) (v303 : FVec Ideal S256x128 .f32) (v304 : FVec Ideal S4096x128 .bf16) :
    mat (k0_pay44 v301 v303 v304) = mat v303 + mm (mat v301) (mat v304) := by
  simp only [k0_pay44, same, dot6, mat_addf, mat_truncf]

theorem pay45 (v316 : FVec Ideal S256x4096 .f32) (v318 : FVec Ideal S256x128 .f32) (v319 : FVec Ideal S4096x128 .bf16) :
    mat (k0_pay45 v316 v318 v319) = mat v318 + mm (mat v316) (mat v319) := by
  simp only [k0_pay45, same, dot6, mat_addf, mat_truncf]

theorem pay46 (v331 : FVec Ideal S256x4096 .f32) (v333 : FVec Ideal S256x128 .f32) (v334 : FVec Ideal S4096x128 .bf16) :
    mat (k0_pay46 v331 v333 v334) = mat v333 + mm (mat v331) (mat v334) := by
  simp only [k0_pay46, same, dot6, mat_addf, mat_truncf]

theorem pay47 (v336 : FVec Ideal S256x128 .f32) :
    mat (k0_pay47 v336) = mat v336 := by
  simp only [k0_pay47, same, mat_truncf]

theorem pay48 (v346 : FVec Ideal S256x4096 .f32) (v348 : FVec Ideal S256x128 .f32) (v349 : FVec Ideal S4096x128 .bf16) :
    mat (k0_pay48 v346 v348 v349) = mat v348 + mm (mat v346) (mat v349) := by
  simp only [k0_pay48, same, dot6, mat_addf, mat_truncf]

theorem pay49 (v361 : FVec Ideal S256x4096 .f32) :
    mat (k0_pay49 v361) = mat v361 := by
  simp only [k0_pay49, same, mat_truncf]

theorem pay50 (v362 : FVec Ideal S256x4096 .bf16) (v363 : FVec Ideal S256x128 .f32) (v364 : FVec Ideal S4096x128 .bf16) :
    mat (k0_pay50 v362 v363 v364) = mat v363 + mm (mat v362) (mat v364) := by
  simp only [k0_pay50, same, dot6, mat_addf]

theorem pay51 (v376 : FVec Ideal S256x4096 .f32) (v378 : FVec Ideal S256x128 .f32) (v379 : FVec Ideal S4096x128 .bf16) :
    mat (k0_pay51 v376 v378 v379) = mat v378 + mm (mat v376) (mat v379) := by
  simp only [k0_pay51, same, dot6, mat_addf, mat_truncf]

theorem pay52 (v391 : FVec Ideal S256x4096 .f32) (v393 : FVec Ideal S256x128 .f32) (v394 : FVec Ideal S4096x128 .bf16) :
    mat (k0_pay52 v391 v393 v394) = mat v393 + mm (mat v391) (mat v394) := by
  simp only [k0_pay52, same, dot6, mat_addf, mat_truncf]

theorem pay53 (v406 : FVec Ideal S256x4096 .f32) (v408 : FVec Ideal S256x128 .f32) (v409 : FVec Ideal S4096x128 .bf16) :
    mat (k0_pay53 v406 v408 v409) = mat v408 + mm (mat v406) (mat v409) := by
  simp only [k0_pay53, same, dot6, mat_addf, mat_truncf]

theorem pay54 (v421 : FVec Ideal S256x4096 .f32) (v423 : FVec Ideal S256x128 .f32) (v424 : FVec Ideal S4096x128 .bf16) :
    mat (k0_pay54 v421 v423 v424) = mat v423 + mm (mat v421) (mat v424) := by
  simp only [k0_pay54, same, dot6, mat_addf, mat_truncf]

theorem pay55 (v436 : FVec Ideal S256x4096 .f32) (v438 : FVec Ideal S256x128 .f32) (v439 : FVec Ideal S4096x128 .bf16) :
    mat (k0_pay55 v436 v438 v439) = mat v438 + mm (mat v436) (mat v439) := by
  simp only [k0_pay55, same, dot6, mat_addf, mat_truncf]

theorem pay56 (v451 : FVec Ideal S256x4096 .f32) (v453 : FVec Ideal S256x128 .f32) (v454 : FVec Ideal S4096x128 .bf16) :
    mat (k0_pay56 v451 v453 v454) = mat v453 + mm (mat v451) (mat v454) := by
  simp only [k0_pay56, same, dot6, mat_addf, mat_truncf]

theorem pay57 (v466 : FVec Ideal S256x4096 .f32) (v468 : FVec Ideal S256x128 .f32) (v469 : FVec Ideal S4096x128 .bf16) :
    mat (k0_pay57 v466 v468 v469) = mat v468 + mm (mat v466) (mat v469) := by
  simp only [k0_pay57, same, dot6, mat_addf, mat_truncf]

theorem pay58 (v471 : FVec Ideal S256x128 .f32) :
    mat (k0_pay58 v471) = mat v471 := by
  simp only [k0_pay58, same, mat_truncf]

theorem pay59 (v481 : FVec Ideal S256x4096 .f32) (v483 : FVec Ideal S256x128 .f32) (v484 : FVec Ideal S4096x128 .bf16) :
    mat (k0_pay59 v481 v483 v484) = mat v483 + mm (mat v481) (mat v484) := by
  simp only [k0_pay59, same, dot6, mat_addf, mat_truncf]

theorem pay60 (v496 : FVec Ideal S256x4096 .f32) :
    mat (k0_pay60 v496) = mat v496 := by
  simp only [k0_pay60, same, mat_truncf]

theorem pay61 (v497 : FVec Ideal S256x4096 .bf16) (v498 : FVec Ideal S256x128 .f32) (v499 : FVec Ideal S4096x128 .bf16) :
    mat (k0_pay61 v497 v498 v499) = mat v498 + mm (mat v497) (mat v499) := by
  simp only [k0_pay61, same, dot6, mat_addf]

theorem pay62 (v511 : FVec Ideal S256x4096 .f32) (v513 : FVec Ideal S256x128 .f32) (v514 : FVec Ideal S4096x128 .bf16) :
    mat (k0_pay62 v511 v513 v514) = mat v513 + mm (mat v511) (mat v514) := by
  simp only [k0_pay62, same, dot6, mat_addf, mat_truncf]

theorem pay63 (v526 : FVec Ideal S256x4096 .f32) :
    mat (k0_pay63 v526) = mat v526 := by
  simp only [k0_pay63, same, mat_truncf]

theorem pay64 (v527 : FVec Ideal S256x4096 .bf16) (v528 : FVec Ideal S256x128 .f32) (v529 : FVec Ideal S4096x128 .bf16) :
    mat (k0_pay64 v527 v528 v529) = mat v528 + mm (mat v527) (mat v529) := by
  simp only [k0_pay64, same, dot6, mat_addf]

theorem pay65 (v541 : FVec Ideal S256x4096 .f32) (v543 : FVec Ideal S256x128 .f32) (v544 : FVec Ideal S4096x128 .bf16) :
    mat (k0_pay65 v541 v543 v544) = mat v543 + mm (mat v541) (mat v544) := by
  simp only [k0_pay65, same, dot6, mat_addf, mat_truncf]

theorem pay66 (v556 : FVec Ideal S256x4096 .f32) (v558 : FVec Ideal S256x128 .f32) (v559 : FVec Ideal S4096x128 .bf16) :
    mat (k0_pay66 v556 v558 v559) = mat v558 + mm (mat v556) (mat v559) := by
  simp only [k0_pay66, same, dot6, mat_addf, mat_truncf]

theorem pay67 (v571 : FVec Ideal S256x4096 .f32) (v573 : FVec Ideal S256x128 .f32) (v574 : FVec Ideal S4096x128 .bf16) :
    mat (k0_pay67 v571 v573 v574) = mat v573 + mm (mat v571) (mat v574) := by
  simp only [k0_pay67, same, dot6, mat_addf, mat_truncf]

theorem pay68 (v586 : FVec Ideal S256x4096 .f32) (v588 : FVec Ideal S256x128 .f32) (v589 : FVec Ideal S4096x128 .bf16) :
    mat (k0_pay68 v586 v588 v589) = mat v588 + mm (mat v586) (mat v589) := by
  simp only [k0_pay68, same, dot6, mat_addf, mat_truncf]

theorem pay69 (v601 : FVec Ideal S256x4096 .f32) (v603 : FVec Ideal S256x128 .f32) (v604 : FVec Ideal S4096x128 .bf16) :
    mat (k0_pay69 v601 v603 v604) = mat v603 + mm (mat v601) (mat v604) := by
  simp only [k0_pay69, same, dot6, mat_addf, mat_truncf]

theorem pay70 (v6 : FVec Ideal S2048x128 .f32) (v613 : FVec Ideal S1x1x128x128 .f32) (v616 : FVec Ideal S2048x128 .f32) (v618 : FVec Ideal S2048x256 .f32) (v620 : FVec Ideal S256x128 .bf16) :
    mat (k0_pay70 v6 v613 v616 v618 v620) = lgs (mm (mat v6) (face2 v613) + mat v616 + mm (mat v618) (mat v620)) := by
  simp only [k0_pay70, same, dot1, dot7, mat_addf, mat_truncf, mat_logistic]
  rw [mat_face2]

theorem pay71 (v6 : FVec Ideal S2048x128 .f32) (v613 : FVec Ideal S1x1x128x128 .f32) (v616 : FVec Ideal S2048x128 .f32) (v618 : FVec Ideal S2048x256 .f32) (v620 : FVec Ideal S256x128 .bf16) :
    mat (k0_pay71 v6 v613 v616 v618 v620) = lgs (mm (mat v6) (face2 v613) + mat v616 + mm (mat v618) (mat v620)) := by
  simp only [k0_pay71, k0_pay70, same, dot1, dot7, mat_addf, mat_truncf, mat_logistic]
  rw [mat_face2]

theorem pay72 (v7 : FVec Ideal S6144x128 .f32) (v627 : FVec Ideal S1x128x128 .f32) (v630 : FVec Ideal S6144x128 .f32) (v632 : FVec Ideal S6144x256 .f32) (v634 : FVec Ideal S256x128 .bf16) :
    mat (k0_pay72 v7 v627 v630 v632 v634) = mm (mat v7) (face v627) + mat v630 + mm (mat v632) (mat v634) := by
  simp only [k0_pay72, same, dot2, dot8, mat_addf, mat_truncf]
  rw [mat_face]

theorem pay73 (v636 : FVec Ideal S6144x128 .f32) (v637 : FVec Ideal S6144x256 .f32) (v639 : FVec Ideal S256x128 .bf16) (v643 : FVec Ideal S1x128x128 .f32) :
    mat (k0_pay73 v636 v637 v639 v643) = mm (lgs (mat v636 + mm (mat v637) (mat v639))) (face v643) := by
  simp only [k0_pay73, same, dot2, dot8, mat_addf, mat_truncf, mat_logistic]
  rw [mat_face]

theorem pay74 (v42 : FVec Ideal S256x1 .f32) (v623 : FVec Ideal S2048x128 .f32) (v650 : FVec Ideal S2048x256 .f32) (v656 : FVec Ideal S1x1x128x128 .f32) (v662 : FVec Ideal S1x1x128x128 .f32) :
    mat (k0_pay74 v42 v623 v650 v656 v662) = mm (scale (col v42) (mm (tr (mat v650)) (mat v623))) (face2 v656) + mm (scale (sq (col v42)) (mm (tr (mat v650)) (mat v623))) (face2 v662) := by
  simp only [k0_pay74, same, dot4, tdot1, mat_addf, mat_truncf]
  rw [mat_scale, mat_scale, col_sq, mat_face2, mat_face2, tdot1, mat_truncf, mat_truncf]

theorem pay75 (v673 : FVec Ideal S256x6144 .f32) (v675 : FVec Ideal S6144x128 .bf16) :
    mat (k0_pay75 v673 v675) = mm (mat v673) (mat v675) := by
  simp only [k0_pay75, same, dot5, mat_truncf]

theorem pay76 (v686 : FVec Ideal S256x6144 .f32) (v688 : FVec Ideal S6144x128 .bf16) :
    mat (k0_pay76 v686 v688) = mm (mat v686) (mat v688) := by
  simp only [k0_pay76, same, dot5, mat_truncf]

theorem pay77 (v699 : FVec Ideal S256x6144 .f32) (v701 : FVec Ideal S6144x128 .bf16) :
    mat (k0_pay77 v699 v701) = mm (mat v699) (mat v701) := by
  simp only [k0_pay77, same, dot5, mat_truncf]

theorem pay78 (v712 : FVec Ideal S256x6144 .f32) (v714 : FVec Ideal S6144x128 .bf16) :
    mat (k0_pay78 v712 v714) = mm (mat v712) (mat v714) := by
  simp only [k0_pay78, same, dot5, mat_truncf]

theorem pay79 (v725 : FVec Ideal S256x6144 .f32) (v727 : FVec Ideal S6144x128 .bf16) :
    mat (k0_pay79 v725 v727) = mm (mat v725) (mat v727) := by
  simp only [k0_pay79, same, dot5, mat_truncf]

theorem pay80 (v738 : FVec Ideal S256x6144 .f32) (v740 : FVec Ideal S6144x128 .bf16) :
    mat (k0_pay80 v738 v740) = mm (mat v738) (mat v740) := by
  simp only [k0_pay80, same, dot5, mat_truncf]

theorem pay81 (v751 : FVec Ideal S256x6144 .f32) (v753 : FVec Ideal S6144x128 .bf16) :
    mat (k0_pay81 v751 v753) = mm (mat v751) (mat v753) := by
  simp only [k0_pay81, same, dot5, mat_truncf]

theorem pay82 (v761 : FVec Ideal S256x6144 .f32) (v763 : FVec Ideal S6144x128 .bf16) :
    mat (k0_pay82 v761 v763) = mm (mat v761) (mat v763) := by
  simp only [k0_pay82, same, dot5, mat_truncf]

theorem pay83 (v768 : FVec Ideal S2048x128 .f32) (v769 : FVec Ideal S1x1x128x128 .f32) (v772 : FVec Ideal S2048x128 .f32) :
    mat (k0_pay83 v768 v769 v772) = mm (mat v768) (face2 v769) + mat v772 := by
  simp only [k0_pay83, same, dot1, mat_addf]
  rw [mat_face2]

theorem pay84 (v774 : FVec Ideal S2048x256 .f32) (v776 : FVec Ideal S256x128 .bf16) :
    mat (k0_pay84 v774 v776) = mm (mat v774) (mat v776) := by
  simp only [k0_pay84, same, dot7, mat_truncf]

end Cert.Net.Ker

end

end
-- ==== Proof.Loads.lean ====
/- What the kernel loads: whole windows, members of stacks, and blocks of rows of the two incidence matrices. -/
module

public import proofs.«01_k».proof.Proof.Pays
public import proofs.«01_k».proof.Proof.Gen.KernelIdeal.Frame.RunA

@[expose] public section

set_option maxRecDepth 16384

noncomputable section

namespace Cert.Net.Ker

open Idealize.ShloMosaic Idealize.ShloMosaic.TcCoe Cert.KernelIdeal Cert.KernelIdeal.Gen

/-- Column `p` of a stack of columns. -/
def stk (x : FVec Ideal S3x256x1 .f32) (p : Fin 3) : Fin 256 → EReal := fun i => x (ix3 p i 0)

/-- The first incidence matrix. -/
def inc {c : Dev nD} (fh : HbBuf0 (F := Ideal) c hbM0_0) : Mat 2048 6144 := mat (φ := .f32) (n := 2048) (m := 6144) fh

/-- The second incidence matrix. -/
def inc2 {c : Dev nD} (fh : HbBuf0 (F := Ideal) c hbM0_1) : Mat 6144 4096 := mat (φ := .f32) (n := 6144) (m := 4096) fh

/-- A load of a whole window. -/
theorem mat_load {n m : ℕ} (a : Memref sig .tc .vmem ⟨2, ![n, m]⟩ .f32) (h : a.IsWhole) (x : Vec Ideal ⟨2, ![n, m]⟩ .f32)
    (inb : ∀ b, (![0, 0] : Fin 2 → ℕ) b + (⟨2, ![n, m]⟩ : Shape).size b ≤ (⟨2, ![n, m]⟩ : Shape).size b) :
    mat (φ := .f32) (n := n) (m := m) (View.readAt (Elt Ideal) a.view (Rect.unit (s := ⟨2, ![n, m]⟩) ![0, 0] (⟨2, ![n, m]⟩ : Shape).size inb).toLoadRect (h.unread x))
      = mat (φ := .f32) x := by
  rw [View.readAt_eq_ld, h.read_unread, mat32_ld, rowsAt_zero]

/-- Member 0 of a stack of two. -/
theorem face_load0 (a : Memref sig .tc .vmem S2x128x128 .f32) (h : a.IsWhole) (x : Vec Ideal S2x128x128 .f32)
    (inb : ∀ b, (![0, 0, 0] : Fin 3 → ℕ) b + S1x128x128.size b ≤ S2x128x128.size b) :
    face (View.readAt (Elt Ideal) a.view (Rect.unit (s := S2x128x128) ![0, 0, 0] S1x128x128.size inb).toLoadRect (h.unread x))
      = mat3 (φ := .f32) x 0 := by
  rw [View.readAt_eq_ld, h.read_unread]
  funext i j
  refine congrArg x ?_
  funext b; apply Fin.ext; fin_cases b
  · rfl
  · show 0 + 1 * i.val = i.val; omega
  · show 0 + 1 * j.val = j.val; omega

/-- Member 1 of a stack of two. -/
theorem face_load1 (a : Memref sig .tc .vmem S2x128x128 .f32) (h : a.IsWhole) (x : Vec Ideal S2x128x128 .f32)
    (inb : ∀ b, (![1, 0, 0] : Fin 3 → ℕ) b + S1x128x128.size b ≤ S2x128x128.size b) :
    face (View.readAt (Elt Ideal) a.view (Rect.unit (s := S2x128x128) ![1, 0, 0] S1x128x128.size inb).toLoadRect (h.unread x))
      = mat3 (φ := .f32) x 1 := by
  rw [View.readAt_eq_ld, h.read_unread]
  funext i j
  refine congrArg x ?_
  funext b; apply Fin.ext; fin_cases b
  · rfl
  · show 0 + 1 * i.val = i.val; omega
  · show 0 + 1 * j.val = j.val; omega

/-- Member (0, 0) of a stack of stacks. -/
theorem face2_loadW00 (a : Memref sig .tc .vmem S2x3x128x128 .f32) (h : a.IsWhole) (x : Vec Ideal S2x3x128x128 .f32)
    (inb : ∀ b, (![0, 0, 0, 0] : Fin 4 → ℕ) b + S1x1x128x128.size b ≤ S2x3x128x128.size b) :
    face2 (View.readAt (Elt Ideal) a.view (Rect.unit (s := S2x3x128x128) ![0, 0, 0, 0] S1x1x128x128.size inb).toLoadRect (h.unread x))
      = mat4 (φ := .f32) x 0 0 := by
  rw [View.readAt_eq_ld, h.read_unread]
  funext i j
  refine congrArg x ?_
  funext b; apply Fin.ext; fin_cases b
  · rfl
  · rfl
  · show 0 + 1 * i.val = i.val; omega
  · show 0 + 1 * j.val = j.val; omega

/-- Member (0, 1) of a stack of stacks. -/
theorem face2_loadW01 (a : Memref sig .tc .vmem S2x3x128x128 .f32) (h : a.IsWhole) (x : Vec Ideal S2x3x128x128 .f32)
    (inb : ∀ b, (![0, 1, 0, 0] : Fin 4 → ℕ) b + S1x1x128x128.size b ≤ S2x3x128x128.size b) :
    face2 (View.readAt (Elt Ideal) a.view (Rect.unit (s := S2x3x128x128) ![0, 1, 0, 0] S1x1x128x128.size inb).toLoadRect (h.unread x))
      = mat4 (φ := .f32) x 0 1 := by
  rw [View.readAt_eq_ld, h.read_unread]
  funext i j
  refine congrArg x ?_
  funext b; apply Fin.ext; fin_cases b
  · rfl
  · rfl
  · show 0 + 1 * i.val = i.val; omega
  · show 0 + 1 * j.val = j.val; omega

/-- Member (0, 2) of a stack of stacks. -/
theorem face2_loadW02 (a : Memref sig .tc .vmem S2x3x128x128 .f32) (h : a.IsWhole) (x : Vec Ideal S2x3x128x128 .f32)
    (inb : ∀ b, (![0, 2, 0, 0] : Fin 4 → ℕ) b + S1x1x128x128.size b ≤ S2x3x128x128.size b) :
    face2 (View.readAt (Elt Ideal) a.view (Rect.unit (s := S2x3x128x128) ![0, 2, 0, 0] S1x1x128x128.size inb).toLoadRect (h.unread x))
      = mat4 (φ := .f32) x 0 2 := by
  rw [View.readAt_eq_ld, h.read_unread]
  funext i j
  refine congrArg x ?_
  funext b; apply Fin.ext; fin_cases b
  · rfl
  · rfl
  · show 0 + 1 * i.val = i.val; omega
  · show 0 + 1 * j.val = j.val; omega

/-- Member (1, 0) of a stack of stacks. -/
theorem face2_loadW10 (a : Memref sig .tc .vmem S2x3x128x128 .f32) (h : a.IsWhole) (x : Vec Ideal S2x3x128x128 .f32)
    (inb : ∀ b, (![1, 0, 0, 0] : Fin 4 → ℕ) b + S1x1x128x128.size b ≤ S2x3x128x128.size b) :
    face2 (View.readAt (Elt Ideal) a.view (Rect.unit (s := S2x3x128x128) ![1, 0, 0, 0] S1x1x128x128.size inb).toLoadRect (h.unread x))
      = mat4 (φ := .f32) x 1 0 := by
  rw [View.readAt_eq_ld, h.read_unread]
  funext i j
  refine congrArg x ?_
  funext b; apply Fin.ext; fin_cases b
  · rfl
  · rfl
  · show 0 + 1 * i.val = i.val; omega
  · show 0 + 1 * j.val = j.val; omega

/-- Member (1, 1) of a stack of stacks. -/
theorem face2_loadW11 (a : Memref sig .tc .vmem S2x3x128x128 .f32) (h : a.IsWhole) (x : Vec Ideal S2x3x128x128 .f32)
    (inb : ∀ b, (![1, 1, 0, 0] : Fin 4 → ℕ) b + S1x1x128x128.size b ≤ S2x3x128x128.size b) :
    face2 (View.readAt (Elt Ideal) a.view (Rect.unit (s := S2x3x128x128) ![1, 1, 0, 0] S1x1x128x128.size inb).toLoadRect (h.unread x))
      = mat4 (φ := .f32) x 1 1 := by
  rw [View.readAt_eq_ld, h.read_unread]
  funext i j
  refine congrArg x ?_
  funext b; apply Fin.ext; fin_cases b
  · rfl
  · rfl
  · show 0 + 1 * i.val = i.val; omega
  · show 0 + 1 * j.val = j.val; omega

/-- Member (1, 2) of a stack of stacks. -/
theorem face2_loadW12 (a : Memref sig .tc .vmem S2x3x128x128 .f32) (h : a.IsWhole) (x : Vec Ideal S2x3x128x128 .f32)
    (inb : ∀ b, (![1, 2, 0, 0] : Fin 4 → ℕ) b + S1x1x128x128.size b ≤ S2x3x128x128.size b) :
    face2 (View.readAt (Elt Ideal) a.view (Rect.unit (s := S2x3x128x128) ![1, 2, 0, 0] S1x1x128x128.size inb).toLoadRect (h.unread x))
      = mat4 (φ := .f32) x 1 2 := by
  rw [View.readAt_eq_ld, h.read_unread]
  funext i j
  refine congrArg x ?_
  funext b; apply Fin.ext; fin_cases b
  · rfl
  · rfl
  · show 0 + 1 * i.val = i.val; omega
  · show 0 + 1 * j.val = j.val; omega

/-- Member (0, 0) of a stack of stacks. -/
theorem face2_loadD00 (a : Memref sig .tc .vmem S2x2x128x128 .f32) (h : a.IsWhole) (x : Vec Ideal S2x2x128x128 .f32)
    (inb : ∀ b, (![0, 0, 0, 0] : Fin 4 → ℕ) b + S1x1x128x128.size b ≤ S2x2x128x128.size b) :
    face2 (View.readAt (Elt Ideal) a.view (Rect.unit (s := S2x2x128x128) ![0, 0, 0, 0] S1x1x128x128.size inb).toLoadRect (h.unread x))
      = mat4 (φ := .f32) x 0 0 := by
  rw [View.readAt_eq_ld, h.read_unread]
  funext i j
  refine congrArg x ?_
  funext b; apply Fin.ext; fin_cases b
  · rfl
  · rfl
  · show 0 + 1 * i.val = i.val; omega
  · show 0 + 1 * j.val = j.val; omega

/-- Member (0, 1) of a stack of stacks. -/
theorem face2_loadD01 (a : Memref sig .tc .vmem S2x2x128x128 .f32) (h : a.IsWhole) (x : Vec Ideal S2x2x128x128 .f32)
    (inb : ∀ b, (![0, 1, 0, 0] : Fin 4 → ℕ) b + S1x1x128x128.size b ≤ S2x2x128x128.size b) :
    face2 (View.readAt (Elt Ideal) a.view (Rect.unit (s := S2x2x128x128) ![0, 1, 0, 0] S1x1x128x128.size inb).toLoadRect (h.unread x))
      = mat4 (φ := .f32) x 0 1 := by
  rw [View.readAt_eq_ld, h.read_unread]
  funext i j
  refine congrArg x ?_
  funext b; apply Fin.ext; fin_cases b
  · rfl
  · rfl
  · show 0 + 1 * i.val = i.val; omega
  · show 0 + 1 * j.val = j.val; omega

/-- Column 0 of the eigenvalues. -/
theorem stalk_load0 (a : Memref sig .tc .vmem S3x256x1 .f32) (h : a.IsWhole) (x : Vec Ideal S3x256x1 .f32)
    (inb : ∀ b, (![0, 0, 0] : Fin 3 → ℕ) b + S1x256x1.size b ≤ S3x256x1.size b) :
    stalk (View.readAt (Elt Ideal) a.view (Rect.unit (s := S3x256x1) ![0, 0, 0] S1x256x1.size inb).toLoadRect (h.unread x))
      = stk x 0 := by
  rw [View.readAt_eq_ld, h.read_unread]
  funext i
  refine congrArg x ?_
  funext b; apply Fin.ext; fin_cases b
  · rfl
  · show 0 + 1 * i.val = i.val; omega
  · rfl

/-- Column 1 of the eigenvalues. -/
theorem stalk_load1 (a : Memref sig .tc .vmem S3x256x1 .f32) (h : a.IsWhole) (x : Vec Ideal S3x256x1 .f32)
    (inb : ∀ b, (![1, 0, 0] : Fin 3 → ℕ) b + S1x256x1.size b ≤ S3x256x1.size b) :
    stalk (View.readAt (Elt Ideal) a.view (Rect.unit (s := S3x256x1) ![1, 0, 0] S1x256x1.size inb).toLoadRect (h.unread x))
      = stk x 1 := by
  rw [View.readAt_eq_ld, h.read_unread]
  funext i
  refine congrArg x ?_
  funext b; apply Fin.ext; fin_cases b
  · rfl
  · show 0 + 1 * i.val = i.val; omega
  · rfl

/-- Column 2 of the eigenvalues. -/
theorem stalk_load2 (a : Memref sig .tc .vmem S3x256x1 .f32) (h : a.IsWhole) (x : Vec Ideal S3x256x1 .f32)
    (inb : ∀ b, (![2, 0, 0] : Fin 3 → ℕ) b + S1x256x1.size b ≤ S3x256x1.size b) :
    stalk (View.readAt (Elt Ideal) a.view (Rect.unit (s := S3x256x1) ![2, 0, 0] S1x256x1.size inb).toLoadRect (h.unread x))
      = stk x 2 := by
  rw [View.readAt_eq_ld, h.read_unread]
  funext i
  refine congrArg x ?_
  funext b; apply Fin.ext; fin_cases b
  · rfl
  · show 0 + 1 * i.val = i.val; omega
  · rfl

/-- The bias. -/
theorem vec_load (a : Memref sig .tc .vmem S9 .f32) (h : a.IsWhole) (x : Vec Ideal S9 .f32)
    (inb : ∀ b, (![0] : Fin 1 → ℕ) b + S9.size b ≤ S9.size b) :
    vec (n := 9) (φ := .f32) (View.readAt (Elt Ideal) a.view (Rect.unit (s := S9) ![0] S9.size inb).toLoadRect (h.unread x))
      = vec (φ := .f32) x := by
  rw [View.readAt_eq_ld, h.read_unread]
  funext i
  refine congrArg x ?_
  funext b; apply Fin.ext; fin_cases b
  show 0 + 1 * i.val = i.val; omega

/-- A copied block of 256 rows of the first incidence matrix. -/
theorem dma_rows0 {c : Dev nD} (fh : HbBuf0 (F := Ideal) c hbM0_0) (o : ℕ)
    (inb : ∀ b, (![o, 0] : Fin 2 → ℕ) b + S256x6144.size b ≤ S2048x6144.size b)
    (p : _) :
    mat (φ := .f32) (n := 256) (m := 6144) (ReadAs.same.apply (View.read (Elt Ideal)
      ((Memref.whole main_arg13).slice (Rect.unit (s := S2048x6144) ![o, 0] S256x6144.size inb) p).view fh)) = rowsAt (inc fh) o 256 := by
  funext i j
  have hi : o + i.val < 2048 := by have := inb 0; have := i.isLt; simp at *; omega
  unfold rowsAt
  rw [dif_pos hi]
  exact ld_rows (Val := Elt Ideal) (e := .f32) fh o inb i j hi

/-- A copied block of 256 rows of the second incidence matrix. -/
theorem dma_rows1 {c : Dev nD} (fh : HbBuf0 (F := Ideal) c hbM0_1) (o : ℕ)
    (inb : ∀ b, (![o, 0] : Fin 2 → ℕ) b + S256x4096.size b ≤ S6144x4096.size b)
    (p : _) :
    mat (φ := .f32) (n := 256) (m := 4096) (ReadAs.same.apply (View.read (Elt Ideal)
      ((Memref.whole main_arg14).slice (Rect.unit (s := S6144x4096) ![o, 0] S256x4096.size inb) p).view fh)) = rowsAt (inc2 fh) o 256 := by
  funext i j
  have hi : o + i.val < 6144 := by have := inb 0; have := i.isLt; simp at *; omega
  unfold rowsAt
  rw [dif_pos hi]
  exact ld_rows (Val := Elt Ideal) (e := .f32) fh o inb i j hi

end Cert.Net.Ker

end

end
-- ==== Proof.Ring.lean ====
/- The copied row blocks of the incidence matrices, and what the kernel reads of them. -/
module

public import proofs.«01_k».proof.Proof.Loads

@[expose] public section

set_option maxRecDepth 16384

noncomputable section

namespace Cert.Net.Ker

open Idealize.ShloMosaic Idealize.ShloMosaic.TcCoe Cert.KernelIdeal Cert.KernelIdeal.Gen

variable (c : Dev nD) (arg0 : Memref sig .tc .vmem S2048x128 .f32) (harg0 : arg0.IsWhole)
    (arg1 : Memref sig .tc .vmem S6144x128 .f32) (harg1 : arg1.IsWhole) (arg2 : Memref sig .tc .vmem S4096x128 .f32)
    (harg2 : arg2.IsWhole) (arg3 : Memref sig .tc .vmem S2048x256 .f32) (harg3 : arg3.IsWhole)
    (arg4 : Memref sig .tc .vmem S6144x256 .f32) (harg4 : arg4.IsWhole) (arg5 : Memref sig .tc .vmem S6144x256 .f32)
    (harg5 : arg5.IsWhole) (arg6 : Memref sig .tc .vmem S3x256x1 .f32) (harg6 : arg6.IsWhole)
    (arg7 : Memref sig .tc .vmem S2x3x128x128 .f32) (harg7 : arg7.IsWhole) (arg8 : Memref sig .tc .vmem S2x128x128 .f32)
    (harg8 : arg8.IsWhole) (arg9 : Memref sig .tc .vmem S2x128x128 .f32) (harg9 : arg9.IsWhole)
    (arg10 : Memref sig .tc .vmem S2x2x128x128 .f32) (harg10 : arg10.IsWhole) (arg11 : Memref sig .tc .vmem S2x2x128x128 .f32)
    (harg11 : arg11.IsWhole) (arg12 : Memref sig .tc .vmem S2x128x128 .f32) (harg12 : arg12.IsWhole)
    (arg13 : Memref sig .tc .vmem S2x128x128 .f32) (harg13 : arg13.IsWhole) (arg14 : Memref sig .tc .vmem S128x9 .f32)
    (harg14 : arg14.IsWhole) (arg15 : Memref sig .tc .vmem S9 .f32) (harg15 : arg15.IsWhole)
    (arg18 : Memref sig .tc .vmem S2048x9 .f32) (harg18 : arg18.IsWhole) (arg19 : Memref sig .tc .vmem S2048x128 .bf16)
    (harg19 : arg19.IsWhole) (arg20 : Memref sig .tc .vmem S6144x128 .bf16) (harg20 : arg20.IsWhole)
    (arg21 : Memref sig .tc .vmem S4096x128 .bf16) (harg21 : arg21.IsWhole) (arg22 : Memref sig .tc .vmem S2048x128 .f32)
    (harg22 : arg22.IsWhole) (arg23 : Memref sig .tc .vmem S6144x128 .f32) (harg23 : arg23.IsWhole)
    (arg24 : Memref sig .tc .vmem S2048x128 .f32) (harg24 : arg24.IsWhole) (arg25 : Memref sig .tc .vmem S256x128 .bf16)
    (harg25 : arg25.IsWhole) (arg26 : Memref sig .tc .vmem S512x128 .bf16) (harg26 : arg26.IsWhole)
    (arg27 : Memref sig .tc .vmem S2048x128 .f32) (harg27 : arg27.IsWhole) (arg28 : Memref sig .tc .vmem S256x6144 .f32)
    (harg28 : arg28.IsWhole) (arg29 : Memref sig .tc .vmem S256x6144 .f32) (harg29 : arg29.IsWhole)
    (arg30 : Memref sig .tc .vmem S256x4096 .f32) (harg30 : arg30.IsWhole) (arg31 : Memref sig .tc .vmem S256x4096 .f32)
    (harg31 : arg31.IsWhole) (x0 : Vec Ideal S2048x128 .f32) (x1 : Vec Ideal S6144x128 .f32) (x2 : Vec Ideal S4096x128 .f32)
    (x3 : Vec Ideal S2048x256 .f32) (x4 : Vec Ideal S6144x256 .f32) (x5 : Vec Ideal S6144x256 .f32)
    (x6 : Vec Ideal S3x256x1 .f32) (x7 : Vec Ideal S2x3x128x128 .f32) (x8 : Vec Ideal S2x128x128 .f32)
    (x9 : Vec Ideal S2x128x128 .f32) (x10 : Vec Ideal S2x2x128x128 .f32) (x11 : Vec Ideal S2x2x128x128 .f32)
    (x12 : Vec Ideal S2x128x128 .f32) (x13 : Vec Ideal S2x128x128 .f32) (x14 : Vec Ideal S128x9 .f32)
    (x15 : Vec Ideal S9 .f32) (fh0 : HbBuf0 (F := Ideal) c hbM0_0) (fh1 : HbBuf0 (F := Ideal) c hbM0_1)

/-! Each theorem states which rows of an incidence matrix one copied block, or one read of a buffer of copied
blocks, holds. -/

theorem w_dma77 :
    mat (n := 256) (m := 6144) (φ := .f32) (kernelRun0_A.sl.dma77 c fh0)
      = rowsAt (inc fh0) 1792 256 := by
  rw [kernelRun0_A.sl.dma77]
  exact dma_rows0 _ _ _ _

theorem w_v761 :
    mat (n := 256) (m := 6144) (φ := .f32) (kernelRun0_A.sl.v761 c arg29 fh0)
      = rowsAt (inc fh0) 1792 256 := by
  rw [kernelRun0_A.sl.v761, mat32_readCov, left32_whole, w_dma77, rowsAt_zero]

theorem w_dma203 :
    mat (n := 256) (m := 4096) (φ := .f32) (kernelRun0_A.sl.dma203 c fh1)
      = rowsAt (inc2 fh1) 5888 256 := by
  rw [kernelRun0_A.sl.dma203]
  exact dma_rows1 _ _ _ _

theorem w_v601 :
    mat (n := 256) (m := 4096) (φ := .f32) (kernelRun0_A.sl.v601 c arg31 fh1)
      = rowsAt (inc2 fh1) 5888 256 := by
  rw [kernelRun0_A.sl.v601, mat32_readCov, left32_whole, w_dma203, rowsAt_zero]

theorem w_dma198 :
    mat (n := 256) (m := 4096) (φ := .f32) (kernelRun0_A.sl.dma198 c fh1)
      = rowsAt (inc2 fh1) 5632 256 := by
  rw [kernelRun0_A.sl.dma198]
  exact dma_rows1 _ _ _ _

theorem w_v586 :
    mat (n := 256) (m := 4096) (φ := .f32) (kernelRun0_A.sl.v586 c arg30 fh1)
      = rowsAt (inc2 fh1) 5632 256 := by
  rw [kernelRun0_A.sl.v586, mat32_readCov, left32_whole, w_dma198, rowsAt_zero]

theorem w_dma193 :
    mat (n := 256) (m := 4096) (φ := .f32) (kernelRun0_A.sl.dma193 c fh1)
      = rowsAt (inc2 fh1) 5376 256 := by
  rw [kernelRun0_A.sl.dma193]
  exact dma_rows1 _ _ _ _

theorem w_v571 :
    mat (n := 256) (m := 4096) (φ := .f32) (kernelRun0_A.sl.v571 c arg31 fh1)
      = rowsAt (inc2 fh1) 5376 256 := by
  rw [kernelRun0_A.sl.v571, mat32_readCov, left32_whole, w_dma193, rowsAt_zero]

theorem w_dma188 :
    mat (n := 256) (m := 4096) (φ := .f32) (kernelRun0_A.sl.dma188 c fh1)
      = rowsAt (inc2 fh1) 5120 256 := by
  rw [kernelRun0_A.sl.dma188]
  exact dma_rows1 _ _ _ _

theorem w_v556 :
    mat (n := 256) (m := 4096) (φ := .f32) (kernelRun0_A.sl.v556 c arg30 fh1)
      = rowsAt (inc2 fh1) 5120 256 := by
  rw [kernelRun0_A.sl.v556, mat32_readCov, left32_whole, w_dma188, rowsAt_zero]

theorem w_dma183 :
    mat (n := 256) (m := 4096) (φ := .f32) (kernelRun0_A.sl.dma183 c fh1)
      = rowsAt (inc2 fh1) 4864 256 := by
  rw [kernelRun0_A.sl.dma183]
  exact dma_rows1 _ _ _ _

theorem w_v541 :
    mat (n := 256) (m := 4096) (φ := .f32) (kernelRun0_A.sl.v541 c arg31 fh1)
      = rowsAt (inc2 fh1) 4864 256 := by
  rw [kernelRun0_A.sl.v541, mat32_readCov, left32_whole, w_dma183, rowsAt_zero]

theorem w_dma178 :
    mat (n := 256) (m := 4096) (φ := .f32) (kernelRun0_A.sl.dma178 c fh1)
      = rowsAt (inc2 fh1) 4608 256 := by
  rw [kernelRun0_A.sl.dma178]
  exact dma_rows1 _ _ _ _

theorem w_v526 :
    mat (n := 256) (m := 4096) (φ := .f32) (kernelRun0_A.sl.v526 c arg30 fh1)
      = rowsAt (inc2 fh1) 4608 256 := by
  rw [kernelRun0_A.sl.v526, mat32_readCov, left32_whole, w_dma178, rowsAt_zero]

theorem w_dma173 :
    mat (n := 256) (m := 4096) (φ := .f32) (kernelRun0_A.sl.dma173 c fh1)
      = rowsAt (inc2 fh1) 4352 256 := by
  rw [kernelRun0_A.sl.dma173]
  exact dma_rows1 _ _ _ _

theorem w_v511 :
    mat (n := 256) (m := 4096) (φ := .f32) (kernelRun0_A.sl.v511 c arg31 fh1)
      = rowsAt (inc2 fh1) 4352 256 := by
  rw [kernelRun0_A.sl.v511, mat32_readCov, left32_whole, w_dma173, rowsAt_zero]

theorem w_dma168 :
    mat (n := 256) (m := 4096) (φ := .f32) (kernelRun0_A.sl.dma168 c fh1)
      = rowsAt (inc2 fh1) 4096 256 := by
  rw [kernelRun0_A.sl.dma168]
  exact dma_rows1 _ _ _ _

theorem w_v496 :
    mat (n := 256) (m := 4096) (φ := .f32) (kernelRun0_A.sl.v496 c arg30 fh1)
      = rowsAt (inc2 fh1) 4096 256 := by
  rw [kernelRun0_A.sl.v496, mat32_readCov, left32_whole, w_dma168, rowsAt_zero]

theorem w_dma163 :
    mat (n := 256) (m := 4096) (φ := .f32) (kernelRun0_A.sl.dma163 c fh1)
      = rowsAt (inc2 fh1) 3840 256 := by
  rw [kernelRun0_A.sl.dma163]
  exact dma_rows1 _ _ _ _

theorem w_v481 :
    mat (n := 256) (m := 4096) (φ := .f32) (kernelRun0_A.sl.v481 c arg31 fh1)
      = rowsAt (inc2 fh1) 3840 256 := by
  rw [kernelRun0_A.sl.v481, mat32_readCov, left32_whole, w_dma163, rowsAt_zero]

theorem w_dma158 :
    mat (n := 256) (m := 4096) (φ := .f32) (kernelRun0_A.sl.dma158 c fh1)
      = rowsAt (inc2 fh1) 3584 256 := by
  rw [kernelRun0_A.sl.dma158]
  exact dma_rows1 _ _ _ _

theorem w_v466 :
    mat (n := 256) (m := 4096) (φ := .f32) (kernelRun0_A.sl.v466 c arg30 fh1)
      = rowsAt (inc2 fh1) 3584 256 := by
  rw [kernelRun0_A.sl.v466, mat32_readCov, left32_whole, w_dma158, rowsAt_zero]

theorem w_dma153 :
    mat (n := 256) (m := 4096) (φ := .f32) (kernelRun0_A.sl.dma153 c fh1)
      = rowsAt (inc2 fh1) 3328 256 := by
  rw [kernelRun0_A.sl.dma153]
  exact dma_rows1 _ _ _ _

theorem w_v451 :
    mat (n := 256) (m := 4096) (φ := .f32) (kernelRun0_A.sl.v451 c arg31 fh1)
      = rowsAt (inc2 fh1) 3328 256 := by
  rw [kernelRun0_A.sl.v451, mat32_readCov, left32_whole, w_dma153, rowsAt_zero]

theorem w_dma148 :
    mat (n := 256) (m := 4096) (φ := .f32) (kernelRun0_A.sl.dma148 c fh1)
      = rowsAt (inc2 fh1) 3072 256 := by
  rw [kernelRun0_A.sl.dma148]
  exact dma_rows1 _ _ _ _

theorem w_v436 :
    mat (n := 256) (m := 4096) (φ := .f32) (kernelRun0_A.sl.v436 c arg30 fh1)
      = rowsAt (inc2 fh1) 3072 256 := by
  rw [kernelRun0_A.sl.v436, mat32_readCov, left32_whole, w_dma148, rowsAt_zero]

theorem w_dma143 :
    mat (n := 256) (m := 4096) (φ := .f32) (kernelRun0_A.sl.dma143 c fh1)
      = rowsAt (inc2 fh1) 2816 256 := by
  rw [kernelRun0_A.sl.dma143]
  exact dma_rows1 _ _ _ _

theorem w_v421 :
    mat (n := 256) (m := 4096) (φ := .f32) (kernelRun0_A.sl.v421 c arg31 fh1)
      = rowsAt (inc2 fh1) 2816 256 := by
  rw [kernelRun0_A.sl.v421, mat32_readCov, left32_whole, w_dma143, rowsAt_zero]

theorem w_dma138 :
    mat (n := 256) (m := 4096) (φ := .f32) (kernelRun0_A.sl.dma138 c fh1)
      = rowsAt (inc2 fh1) 2560 256 := by
  rw [kernelRun0_A.sl.dma138]
  exact dma_rows1 _ _ _ _

theorem w_v406 :
    mat (n := 256) (m := 4096) (φ := .f32) (kernelRun0_A.sl.v406 c arg30 fh1)
      = rowsAt (inc2 fh1) 2560 256 := by
  rw [kernelRun0_A.sl.v406, mat32_readCov, left32_whole, w_dma138, rowsAt_zero]

theorem w_dma133 :
    mat (n := 256) (m := 4096) (φ := .f32) (kernelRun0_A.sl.dma133 c fh1)
      = rowsAt (inc2 fh1) 2304 256 := by
  rw [kernelRun0_A.sl.dma133]
  exact dma_rows1 _ _ _ _

theorem w_v391 :
    mat (n := 256) (m := 4096) (φ := .f32) (kernelRun0_A.sl.v391 c arg31 fh1)
      = rowsAt (inc2 fh1) 2304 256 := by
  rw [kernelRun0_A.sl.v391, mat32_readCov, left32_whole, w_dma133, rowsAt_zero]

theorem w_dma128 :
    mat (n := 256) (m := 4096) (φ := .f32) (kernelRun0_A.sl.dma128 c fh1)
      = rowsAt (inc2 fh1) 2048 256 := by
  rw [kernelRun0_A.sl.dma128]
  exact dma_rows1 _ _ _ _

theorem w_v376 :
    mat (n := 256) (m := 4096) (φ := .f32) (kernelRun0_A.sl.v376 c arg30 fh1)
      = rowsAt (inc2 fh1) 2048 256 := by
  rw [kernelRun0_A.sl.v376, mat32_readCov, left32_whole, w_dma128, rowsAt_zero]

theorem w_dma123 :
    mat (n := 256) (m := 4096) (φ := .f32) (kernelRun0_A.sl.dma123 c fh1)
      = rowsAt (inc2 fh1) 1792 256 := by
  rw [kernelRun0_A.sl.dma123]
  exact dma_rows1 _ _ _ _

theorem w_v361 :
    mat (n := 256) (m := 4096) (φ := .f32) (kernelRun0_A.sl.v361 c arg31 fh1)
      = rowsAt (inc2 fh1) 1792 256 := by
  rw [kernelRun0_A.sl.v361, mat32_readCov, left32_whole, w_dma123, rowsAt_zero]

theorem w_dma118 :
    mat (n := 256) (m := 4096) (φ := .f32) (kernelRun0_A.sl.dma118 c fh1)
      = rowsAt (inc2 fh1) 1536 256 := by
  rw [kernelRun0_A.sl.dma118]
  exact dma_rows1 _ _ _ _

theorem w_v346 :
    mat (n := 256) (m := 4096) (φ := .f32) (kernelRun0_A.sl.v346 c arg30 fh1)
      = rowsAt (inc2 fh1) 1536 256 := by
  rw [kernelRun0_A.sl.v346, mat32_readCov, left32_whole, w_dma118, rowsAt_zero]

theorem w_dma113 :
    mat (n := 256) (m := 4096) (φ := .f32) (kernelRun0_A.sl.dma113 c fh1)
      = rowsAt (inc2 fh1) 1280 256 := by
  rw [kernelRun0_A.sl.dma113]
  exact dma_rows1 _ _ _ _

theorem w_v331 :
    mat (n := 256) (m := 4096) (φ := .f32) (kernelRun0_A.sl.v331 c arg31 fh1)
      = rowsAt (inc2 fh1) 1280 256 := by
  rw [kernelRun0_A.sl.v331, mat32_readCov, left32_whole, w_dma113, rowsAt_zero]

theorem w_dma108 :
    mat (n := 256) (m := 4096) (φ := .f32) (kernelRun0_A.sl.dma108 c fh1)
      = rowsAt (inc2 fh1) 1024 256 := by
  rw [kernelRun0_A.sl.dma108]
  exact dma_rows1 _ _ _ _

theorem w_v316 :
    mat (n := 256) (m := 4096) (φ := .f32) (kernelRun0_A.sl.v316 c arg30 fh1)
      = rowsAt (inc2 fh1) 1024 256 := by
  rw [kernelRun0_A.sl.v316, mat32_readCov, left32_whole, w_dma108, rowsAt_zero]

theorem w_dma103 :
    mat (n := 256) (m := 4096) (φ := .f32) (kernelRun0_A.sl.dma103 c fh1)
      = rowsAt (inc2 fh1) 768 256 := by
  rw [kernelRun0_A.sl.dma103]
  exact dma_rows1 _ _ _ _

theorem w_v301 :
    mat (n := 256) (m := 4096) (φ := .f32) (kernelRun0_A.sl.v301 c arg31 fh1)
      = rowsAt (inc2 fh1) 768 256 := by
  rw [kernelRun0_A.sl.v301, mat32_readCov, left32_whole, w_dma103, rowsAt_zero]

theorem w_dma98 :
    mat (n := 256) (m := 4096) (φ := .f32) (kernelRun0_A.sl.dma98 c fh1)
      = rowsAt (inc2 fh1) 512 256 := by
  rw [kernelRun0_A.sl.dma98]
  exact dma_rows1 _ _ _ _

theorem w_v286 :
    mat (n := 256) (m := 4096) (φ := .f32) (kernelRun0_A.sl.v286 c arg30 fh1)
      = rowsAt (inc2 fh1) 512 256 := by
  rw [kernelRun0_A.sl.v286, mat32_readCov, left32_whole, w_dma98, rowsAt_zero]

theorem w_dma93 :
    mat (n := 256) (m := 4096) (φ := .f32) (kernelRun0_A.sl.dma93 c fh1)
      = rowsAt (inc2 fh1) 256 256 := by
  rw [kernelRun0_A.sl.dma93]
  exact dma_rows1 _ _ _ _

theorem w_v271 :
    mat (n := 256) (m := 4096) (φ := .f32) (kernelRun0_A.sl.v271 c arg31 fh1)
      = rowsAt (inc2 fh1) 256 256 := by
  rw [kernelRun0_A.sl.v271, mat32_readCov, left32_whole, w_dma93, rowsAt_zero]

theorem w_dma85 :
    mat (n := 256) (m := 4096) (φ := .f32) (kernelRun0_A.sl.dma85 c fh1)
      = rowsAt (inc2 fh1) 0 256 := by
  rw [kernelRun0_A.sl.dma85]
  exact dma_rows1 _ _ _ _

theorem w_v256 :
    mat (n := 256) (m := 4096) (φ := .f32) (kernelRun0_A.sl.v256 c arg30 fh1)
      = rowsAt (inc2 fh1) 0 256 := by
  rw [kernelRun0_A.sl.v256, mat32_readCov, left32_whole, w_dma85, rowsAt_zero]

theorem w_v236 :
    mat (n := 256) (m := 6144) (φ := .f32) (kernelRun0_A.sl.v236 c arg29 fh0)
      = rowsAt (inc fh0) 1792 256 := by
  rw [kernelRun0_A.sl.v236, mat32_readCov, left32_whole, w_dma77, rowsAt_zero]

theorem w_dma69 :
    mat (n := 256) (m := 6144) (φ := .f32) (kernelRun0_A.sl.dma69 c fh0)
      = rowsAt (inc fh0) 1536 256 := by
  rw [kernelRun0_A.sl.dma69]
  exact dma_rows0 _ _ _ _

theorem w_v216 :
    mat (n := 256) (m := 6144) (φ := .f32) (kernelRun0_A.sl.v216 c arg28 fh0)
      = rowsAt (inc fh0) 1536 256 := by
  rw [kernelRun0_A.sl.v216, mat32_readCov, left32_whole, w_dma69, rowsAt_zero]

theorem w_dma61 :
    mat (n := 256) (m := 6144) (φ := .f32) (kernelRun0_A.sl.dma61 c fh0)
      = rowsAt (inc fh0) 1280 256 := by
  rw [kernelRun0_A.sl.dma61]
  exact dma_rows0 _ _ _ _

theorem w_v196 :
    mat (n := 256) (m := 6144) (φ := .f32) (kernelRun0_A.sl.v196 c arg29 fh0)
      = rowsAt (inc fh0) 1280 256 := by
  rw [kernelRun0_A.sl.v196, mat32_readCov, left32_whole, w_dma61, rowsAt_zero]

theorem w_dma53 :
    mat (n := 256) (m := 6144) (φ := .f32) (kernelRun0_A.sl.dma53 c fh0)
      = rowsAt (inc fh0) 1024 256 := by
  rw [kernelRun0_A.sl.dma53]
  exact dma_rows0 _ _ _ _

theorem w_v176 :
    mat (n := 256) (m := 6144) (φ := .f32) (kernelRun0_A.sl.v176 c arg28 fh0)
      = rowsAt (inc fh0) 1024 256 := by
  rw [kernelRun0_A.sl.v176, mat32_readCov, left32_whole, w_dma53, rowsAt_zero]

theorem w_dma45 :
    mat (n := 256) (m := 6144) (φ := .f32) (kernelRun0_A.sl.dma45 c fh0)
      = rowsAt (inc fh0) 768 256 := by
  rw [kernelRun0_A.sl.dma45]
  exact dma_rows0 _ _ _ _

theorem w_v156 :
    mat (n := 256) (m := 6144) (φ := .f32) (kernelRun0_A.sl.v156 c arg29 fh0)
      = rowsAt (inc fh0) 768 256 := by
  rw [kernelRun0_A.sl.v156, mat32_readCov, left32_whole, w_dma45, rowsAt_zero]

theorem w_dma37 :
    mat (n := 256) (m := 6144) (φ := .f32) (kernelRun0_A.sl.dma37 c fh0)
      = rowsAt (inc fh0) 512 256 := by
  rw [kernelRun0_A.sl.dma37]
  exact dma_rows0 _ _ _ _

theorem w_v136 :
    mat (n := 256) (m := 6144) (φ := .f32) (kernelRun0_A.sl.v136 c arg28 fh0)
      = rowsAt (inc fh0) 512 256 := by
  rw [kernelRun0_A.sl.v136, mat32_readCov, left32_whole, w_dma37, rowsAt_zero]

theorem w_dma0_1 :
    mat (n := 256) (m := 6144) (φ := .f32) (kernelRun0_A.sl.dma0_1 c fh0)
      = rowsAt (inc fh0) 256 256 := by
  rw [kernelRun0_A.sl.dma0_1]
  exact dma_rows0 _ _ _ _

theorem w_v116 :
    mat (n := 256) (m := 6144) (φ := .f32) (kernelRun0_A.sl.v116 c arg29 fh0)
      = rowsAt (inc fh0) 256 256 := by
  rw [kernelRun0_A.sl.v116, mat32_readCov, left32_whole, w_dma0_1, rowsAt_zero]

theorem w_dma0 :
    mat (n := 256) (m := 6144) (φ := .f32) (kernelRun0_A.sl.dma0 c fh0)
      = rowsAt (inc fh0) 0 256 := by
  rw [kernelRun0_A.sl.dma0]
  exact dma_rows0 _ _ _ _

theorem w_v98 :
    mat (n := 256) (m := 6144) (φ := .f32) (kernelRun0_A.sl.v98 c arg28 fh0)
      = rowsAt (inc fh0) 0 256 := by
  rw [kernelRun0_A.sl.v98, mat32_readCov, left32_whole, w_dma0, rowsAt_zero]

theorem w_v751 :
    mat (n := 256) (m := 6144) (φ := .f32) (kernelRun0_A.sl.v751 c arg28 fh0)
      = rowsAt (inc fh0) 1536 256 := by
  rw [kernelRun0_A.sl.v751, mat32_readCov, left32_whole, w_dma69, rowsAt_zero]

theorem w_v738 :
    mat (n := 256) (m := 6144) (φ := .f32) (kernelRun0_A.sl.v738 c arg29 fh0)
      = rowsAt (inc fh0) 1280 256 := by
  rw [kernelRun0_A.sl.v738, mat32_readCov, left32_whole, w_dma61, rowsAt_zero]

theorem w_v725 :
    mat (n := 256) (m := 6144) (φ := .f32) (kernelRun0_A.sl.v725 c arg28 fh0)
      = rowsAt (inc fh0) 1024 256 := by
  rw [kernelRun0_A.sl.v725, mat32_readCov, left32_whole, w_dma53, rowsAt_zero]

theorem w_v712 :
    mat (n := 256) (m := 6144) (φ := .f32) (kernelRun0_A.sl.v712 c arg29 fh0)
      = rowsAt (inc fh0) 768 256 := by
  rw [kernelRun0_A.sl.v712, mat32_readCov, left32_whole, w_dma45, rowsAt_zero]

theorem w_v699 :
    mat (n := 256) (m := 6144) (φ := .f32) (kernelRun0_A.sl.v699 c arg28 fh0)
      = rowsAt (inc fh0) 512 256 := by
  rw [kernelRun0_A.sl.v699, mat32_readCov, left32_whole, w_dma37, rowsAt_zero]

theorem w_v686 :
    mat (n := 256) (m := 6144) (φ := .f32) (kernelRun0_A.sl.v686 c arg29 fh0)
      = rowsAt (inc fh0) 256 256 := by
  rw [kernelRun0_A.sl.v686, mat32_readCov, left32_whole, w_dma0_1, rowsAt_zero]

theorem w_v673 :
    mat (n := 256) (m := 6144) (φ := .f32) (kernelRun0_A.sl.v673 c arg28 fh0)
      = rowsAt (inc fh0) 0 256 := by
  rw [kernelRun0_A.sl.v673, mat32_readCov, left32_whole, w_dma0, rowsAt_zero]

end Cert.Net.Ker

end

end
-- ==== Proof.Ker.lean ====
/- What the kernel keeps in its buffers, as matrices of its arguments. -/
module

public import proofs.«01_k».proof.Proof.Ring

@[expose] public section

set_option maxRecDepth 16384

noncomputable section

namespace Cert.Net.Ker

open Idealize.ShloMosaic Idealize.ShloMosaic.TcCoe Cert.KernelIdeal Cert.KernelIdeal.Gen

variable (c : Dev nD) (arg0 : Memref sig .tc .vmem S2048x128 .f32) (harg0 : arg0.IsWhole)
    (arg1 : Memref sig .tc .vmem S6144x128 .f32) (harg1 : arg1.IsWhole) (arg2 : Memref sig .tc .vmem S4096x128 .f32)
    (harg2 : arg2.IsWhole) (arg3 : Memref sig .tc .vmem S2048x256 .f32) (harg3 : arg3.IsWhole)
    (arg4 : Memref sig .tc .vmem S6144x256 .f32) (harg4 : arg4.IsWhole) (arg5 : Memref sig .tc .vmem S6144x256 .f32)
    (harg5 : arg5.IsWhole) (arg6 : Memref sig .tc .vmem S3x256x1 .f32) (harg6 : arg6.IsWhole)
    (arg7 : Memref sig .tc .vmem S2x3x128x128 .f32) (harg7 : arg7.IsWhole) (arg8 : Memref sig .tc .vmem S2x128x128 .f32)
    (harg8 : arg8.IsWhole) (arg9 : Memref sig .tc .vmem S2x128x128 .f32) (harg9 : arg9.IsWhole)
    (arg10 : Memref sig .tc .vmem S2x2x128x128 .f32) (harg10 : arg10.IsWhole) (arg11 : Memref sig .tc .vmem S2x2x128x128 .f32)
    (harg11 : arg11.IsWhole) (arg12 : Memref sig .tc .vmem S2x128x128 .f32) (harg12 : arg12.IsWhole)
    (arg13 : Memref sig .tc .vmem S2x128x128 .f32) (harg13 : arg13.IsWhole) (arg14 : Memref sig .tc .vmem S128x9 .f32)
    (harg14 : arg14.IsWhole) (arg15 : Memref sig .tc .vmem S9 .f32) (harg15 : arg15.IsWhole)
    (arg18 : Memref sig .tc .vmem S2048x9 .f32) (harg18 : arg18.IsWhole) (arg19 : Memref sig .tc .vmem S2048x128 .bf16)
    (harg19 : arg19.IsWhole) (arg20 : Memref sig .tc .vmem S6144x128 .bf16) (harg20 : arg20.IsWhole)
    (arg21 : Memref sig .tc .vmem S4096x128 .bf16) (harg21 : arg21.IsWhole) (arg22 : Memref sig .tc .vmem S2048x128 .f32)
    (harg22 : arg22.IsWhole) (arg23 : Memref sig .tc .vmem S6144x128 .f32) (harg23 : arg23.IsWhole)
    (arg24 : Memref sig .tc .vmem S2048x128 .f32) (harg24 : arg24.IsWhole) (arg25 : Memref sig .tc .vmem S256x128 .bf16)
    (harg25 : arg25.IsWhole) (arg26 : Memref sig .tc .vmem S512x128 .bf16) (harg26 : arg26.IsWhole)
    (arg27 : Memref sig .tc .vmem S2048x128 .f32) (harg27 : arg27.IsWhole) (arg28 : Memref sig .tc .vmem S256x6144 .f32)
    (harg28 : arg28.IsWhole) (arg29 : Memref sig .tc .vmem S256x6144 .f32) (harg29 : arg29.IsWhole)
    (arg30 : Memref sig .tc .vmem S256x4096 .f32) (harg30 : arg30.IsWhole) (arg31 : Memref sig .tc .vmem S256x4096 .f32)
    (harg31 : arg31.IsWhole) (x0 : Vec Ideal S2048x128 .f32) (x1 : Vec Ideal S6144x128 .f32) (x2 : Vec Ideal S4096x128 .f32)
    (x3 : Vec Ideal S2048x256 .f32) (x4 : Vec Ideal S6144x256 .f32) (x5 : Vec Ideal S6144x256 .f32)
    (x6 : Vec Ideal S3x256x1 .f32) (x7 : Vec Ideal S2x3x128x128 .f32) (x8 : Vec Ideal S2x128x128 .f32)
    (x9 : Vec Ideal S2x128x128 .f32) (x10 : Vec Ideal S2x2x128x128 .f32) (x11 : Vec Ideal S2x2x128x128 .f32)
    (x12 : Vec Ideal S2x128x128 .f32) (x13 : Vec Ideal S2x128x128 .f32) (x14 : Vec Ideal S128x9 .f32)
    (x15 : Vec Ideal S9 .f32) (fh0 : HbBuf0 (F := Ideal) c hbM0_0) (fh1 : HbBuf0 (F := Ideal) c hbM0_1)

/-! Each theorem states one value of the run: `HSi_j` is what buffer `i` holds after some of its stores, the others are
values read from a buffer or computed from such. -/

theorem w_r_1 :
    mat (n := 6144) (m := 128) (φ := .f32) (kernelRun0_A.sl.r_1 c arg1 harg1 x1)
      = mat (φ := .f32) x1 := by
  rw [kernelRun0_A.sl.r_1, mat_load]

theorem w_r_16 :
    mat (n := 256) (m := 4096) (φ := .bf16) (kernelRun0_A.sl.r_16 c arg30 fh1)
      = rowsAt (inc2 fh1) 4608 256 := by
  rw [kernelRun0_A.sl.r_16, pay63, w_v526]

theorem w_r_15 :
    mat (n := 256) (m := 4096) (φ := .bf16) (kernelRun0_A.sl.r_15 c arg30 fh1)
      = rowsAt (inc2 fh1) 4096 256 := by
  rw [kernelRun0_A.sl.r_15, pay60, w_v496]

theorem w_r_13 :
    mat (n := 256) (m := 4096) (φ := .bf16) (kernelRun0_A.sl.r_13 c arg31 fh1)
      = rowsAt (inc2 fh1) 1792 256 := by
  rw [kernelRun0_A.sl.r_13, pay49, w_v361]

theorem w_HS0_1 :
    left16 (n := 2048) (m := 128) (kernelRun0_A.sl.HS0_1 c arg0 harg0 arg12 harg12 x0 x12)
      = mm (mat (φ := .f32) x0) (mat3 (φ := .f32) x12 0) := by
  rw [kernelRun0_A.sl.HS0_1, left16_cons, paste_all, pay2, mat_load, face_load0]

theorem w_v243 :
    mat (n := 256) (m := 128) (φ := .bf16) (kernelRun0_A.sl.v243 c arg0 harg0 arg12 harg12 arg19 x0 x12)
      = rowsAt (mm (mat (φ := .f32) x0) (mat3 (φ := .f32) x12 0)) 1792 256 := by
  rw [kernelRun0_A.sl.v243, mat16_readCov, w_HS0_1]

theorem w_v223 :
    mat (n := 256) (m := 128) (φ := .bf16) (kernelRun0_A.sl.v223 c arg0 harg0 arg12 harg12 arg19 x0 x12)
      = rowsAt (mm (mat (φ := .f32) x0) (mat3 (φ := .f32) x12 0)) 1536 256 := by
  rw [kernelRun0_A.sl.v223, mat16_readCov, w_HS0_1]

theorem w_r_9 :
    mat (n := 256) (m := 6144) (φ := .bf16) (kernelRun0_A.sl.r_9 c arg29 fh0)
      = rowsAt (inc fh0) 1280 256 := by
  rw [kernelRun0_A.sl.r_9, pay30, w_v196]

theorem w_v203 :
    mat (n := 256) (m := 128) (φ := .bf16) (kernelRun0_A.sl.v203 c arg0 harg0 arg12 harg12 arg19 x0 x12)
      = rowsAt (mm (mat (φ := .f32) x0) (mat3 (φ := .f32) x12 0)) 1280 256 := by
  rw [kernelRun0_A.sl.v203, mat16_readCov, w_HS0_1]

theorem w_v183 :
    mat (n := 256) (m := 128) (φ := .bf16) (kernelRun0_A.sl.v183 c arg0 harg0 arg12 harg12 arg19 x0 x12)
      = rowsAt (mm (mat (φ := .f32) x0) (mat3 (φ := .f32) x12 0)) 1024 256 := by
  rw [kernelRun0_A.sl.v183, mat16_readCov, w_HS0_1]

theorem w_v163 :
    mat (n := 256) (m := 128) (φ := .bf16) (kernelRun0_A.sl.v163 c arg0 harg0 arg12 harg12 arg19 x0 x12)
      = rowsAt (mm (mat (φ := .f32) x0) (mat3 (φ := .f32) x12 0)) 768 256 := by
  rw [kernelRun0_A.sl.v163, mat16_readCov, w_HS0_1]

theorem w_v143 :
    mat (n := 256) (m := 128) (φ := .bf16) (kernelRun0_A.sl.v143 c arg0 harg0 arg12 harg12 arg19 x0 x12)
      = rowsAt (mm (mat (φ := .f32) x0) (mat3 (φ := .f32) x12 0)) 512 256 := by
  rw [kernelRun0_A.sl.v143, mat16_readCov, w_HS0_1]

theorem w_r_8 :
    mat (n := 6144) (m := 128) (φ := .f32) (kernelRun0_A.sl.r_8 c arg0 harg0 arg12 harg12 arg19 arg28 x0 x12 fh0)
      = mm (tr (rowsAt (inc fh0) 512 256)) (rowsAt (mm (mat (φ := .f32) x0) (mat3 (φ := .f32) x12 0)) 512 256) := by
  rw [kernelRun0_A.sl.r_8, pay22, w_v136, w_v143]

theorem w_r_7 :
    mat (n := 256) (m := 6144) (φ := .bf16) (kernelRun0_A.sl.r_7 c arg29 fh0)
      = rowsAt (inc fh0) 256 256 := by
  rw [kernelRun0_A.sl.r_7, pay17, w_v116]

theorem w_v123 :
    mat (n := 256) (m := 128) (φ := .bf16) (kernelRun0_A.sl.v123 c arg0 harg0 arg12 harg12 arg19 x0 x12)
      = rowsAt (mm (mat (φ := .f32) x0) (mat3 (φ := .f32) x12 0)) 256 256 := by
  rw [kernelRun0_A.sl.v123, mat16_readCov, w_HS0_1]

theorem w_v105 :
    mat (n := 256) (m := 128) (φ := .bf16) (kernelRun0_A.sl.v105 c arg0 harg0 arg12 harg12 arg19 x0 x12)
      = rowsAt (mm (mat (φ := .f32) x0) (mat3 (φ := .f32) x12 0)) 0 256 := by
  rw [kernelRun0_A.sl.v105, mat16_readCov, w_HS0_1]

theorem w_HS4_1 :
    left32 (n := 6144) (m := 128) (kernelRun0_A.sl.HS4_1 c arg0 harg0 arg12 harg12 arg19 arg28 x0 x12 fh0)
      = mm (tr (rowsAt (inc fh0) 0 256)) (rowsAt (mm (mat (φ := .f32) x0) (mat3 (φ := .f32) x12 0)) 0 256) := by
  rw [kernelRun0_A.sl.HS4_1, left32_cons, paste_all, pay16, w_v98, w_v105]

theorem w_v125 :
    mat (n := 6144) (m := 128) (φ := .f32) (kernelRun0_A.sl.v125 c arg0 harg0 arg12 harg12 arg19 arg23 arg28 x0 x12 fh0)
      = mm (tr (rowsAt (inc fh0) 0 256)) (rowsAt (mm (mat (φ := .f32) x0) (mat3 (φ := .f32) x12 0)) 0 256) := by
  rw [kernelRun0_A.sl.v125, mat32_readCov, w_HS4_1, rowsAt_zero]

theorem w_HS4_2 :
    left32 (n := 6144) (m := 128) (kernelRun0_A.sl.HS4_2 c arg0 harg0 arg12 harg12 arg19 arg23 arg28 arg29 x0 x12 fh0)
      = mm (tr (rowsAt (inc fh0) 0 256)) (rowsAt (mm (mat (φ := .f32) x0) (mat3 (φ := .f32) x12 0)) 0 256) + mm (tr (rowsAt (inc fh0) 256 256)) (rowsAt (mm (mat (φ := .f32) x0) (mat3 (φ := .f32) x12 0)) 256 256) := by
  rw [kernelRun0_A.sl.HS4_2, left32_cons, paste_all, pay19, w_r_7, w_v123, w_v125]

theorem w_v145 :
    mat (n := 6144) (m := 128) (φ := .f32) (kernelRun0_A.sl.v145 c arg0 harg0 arg12 harg12 arg19 arg23 arg28 arg29 x0 x12 fh0)
      = mm (tr (rowsAt (inc fh0) 0 256)) (rowsAt (mm (mat (φ := .f32) x0) (mat3 (φ := .f32) x12 0)) 0 256) + mm (tr (rowsAt (inc fh0) 256 256)) (rowsAt (mm (mat (φ := .f32) x0) (mat3 (φ := .f32) x12 0)) 256 256) := by
  rw [kernelRun0_A.sl.v145, mat32_readCov, w_HS4_2, rowsAt_zero]

theorem w_HS4_3 :
    left32 (n := 6144) (m := 128) (kernelRun0_A.sl.HS4_3 c arg0 harg0 arg12 harg12 arg19 arg23 arg28 arg29 x0 x12 fh0)
      = mm (tr (rowsAt (inc fh0) 0 256)) (rowsAt (mm (mat (φ := .f32) x0) (mat3 (φ := .f32) x12 0)) 0 256) + mm (tr (rowsAt (inc fh0) 256 256)) (rowsAt (mm (mat (φ := .f32) x0) (mat3 (φ := .f32) x12 0)) 256 256) + mm (tr (rowsAt (inc fh0) 512 256)) (rowsAt (mm (mat (φ := .f32) x0) (mat3 (φ := .f32) x12 0)) 512 256) := by
  rw [kernelRun0_A.sl.HS4_3, left32_cons, paste_all, pay23, w_r_8, w_v145]

theorem w_v165 :
    mat (n := 6144) (m := 128) (φ := .f32) (kernelRun0_A.sl.v165 c arg0 harg0 arg12 harg12 arg19 arg23 arg28 arg29 x0 x12 fh0)
      = mm (tr (rowsAt (inc fh0) 0 256)) (rowsAt (mm (mat (φ := .f32) x0) (mat3 (φ := .f32) x12 0)) 0 256) + mm (tr (rowsAt (inc fh0) 256 256)) (rowsAt (mm (mat (φ := .f32) x0) (mat3 (φ := .f32) x12 0)) 256 256) + mm (tr (rowsAt (inc fh0) 512 256)) (rowsAt (mm (mat (φ := .f32) x0) (mat3 (φ := .f32) x12 0)) 512 256) := by
  rw [kernelRun0_A.sl.v165, mat32_readCov, w_HS4_3, rowsAt_zero]

theorem w_HS4_4 :
    left32 (n := 6144) (m := 128) (kernelRun0_A.sl.HS4_4 c arg0 harg0 arg12 harg12 arg19 arg23 arg28 arg29 x0 x12 fh0)
      = mm (tr (rowsAt (inc fh0) 0 256)) (rowsAt (mm (mat (φ := .f32) x0) (mat3 (φ := .f32) x12 0)) 0 256) + mm (tr (rowsAt (inc fh0) 256 256)) (rowsAt (mm (mat (φ := .f32) x0) (mat3 (φ := .f32) x12 0)) 256 256) + mm (tr (rowsAt (inc fh0) 512 256)) (rowsAt (mm (mat (φ := .f32) x0) (mat3 (φ := .f32) x12 0)) 512 256) + mm (tr (rowsAt (inc fh0) 768 256)) (rowsAt (mm (mat (φ := .f32) x0) (mat3 (φ := .f32) x12 0)) 768 256) := by
  rw [kernelRun0_A.sl.HS4_4, left32_cons, paste_all, pay26, w_v156, w_v163, w_v165]

theorem w_v185 :
    mat (n := 6144) (m := 128) (φ := .f32) (kernelRun0_A.sl.v185 c arg0 harg0 arg12 harg12 arg19 arg23 arg28 arg29 x0 x12 fh0)
      = mm (tr (rowsAt (inc fh0) 0 256)) (rowsAt (mm (mat (φ := .f32) x0) (mat3 (φ := .f32) x12 0)) 0 256) + mm (tr (rowsAt (inc fh0) 256 256)) (rowsAt (mm (mat (φ := .f32) x0) (mat3 (φ := .f32) x12 0)) 256 256) + mm (tr (rowsAt (inc fh0) 512 256)) (rowsAt (mm (mat (φ := .f32) x0) (mat3 (φ := .f32) x12 0)) 512 256) + mm (tr (rowsAt (inc fh0) 768 256)) (rowsAt (mm (mat (φ := .f32) x0) (mat3 (φ := .f32) x12 0)) 768 256) := by
  rw [kernelRun0_A.sl.v185, mat32_readCov, w_HS4_4, rowsAt_zero]

theorem w_HS4_5 :
    left32 (n := 6144) (m := 128) (kernelRun0_A.sl.HS4_5 c arg0 harg0 arg12 harg12 arg19 arg23 arg28 arg29 x0 x12 fh0)
      = mm (tr (rowsAt (inc fh0) 0 256)) (rowsAt (mm (mat (φ := .f32) x0) (mat3 (φ := .f32) x12 0)) 0 256) + mm (tr (rowsAt (inc fh0) 256 256)) (rowsAt (mm (mat (φ := .f32) x0) (mat3 (φ := .f32) x12 0)) 256 256) + mm (tr (rowsAt (inc fh0) 512 256)) (rowsAt (mm (mat (φ := .f32) x0) (mat3 (φ := .f32) x12 0)) 512 256) + mm (tr (rowsAt (inc fh0) 768 256)) (rowsAt (mm (mat (φ := .f32) x0) (mat3 (φ := .f32) x12 0)) 768 256) + mm (tr (rowsAt (inc fh0) 1024 256)) (rowsAt (mm (mat (φ := .f32) x0) (mat3 (φ := .f32) x12 0)) 1024 256) := by
  rw [kernelRun0_A.sl.HS4_5, left32_cons, paste_all, pay29, w_v176, w_v183, w_v185]

theorem w_v205 :
    mat (n := 6144) (m := 128) (φ := .f32) (kernelRun0_A.sl.v205 c arg0 harg0 arg12 harg12 arg19 arg23 arg28 arg29 x0 x12 fh0)
      = mm (tr (rowsAt (inc fh0) 0 256)) (rowsAt (mm (mat (φ := .f32) x0) (mat3 (φ := .f32) x12 0)) 0 256) + mm (tr (rowsAt (inc fh0) 256 256)) (rowsAt (mm (mat (φ := .f32) x0) (mat3 (φ := .f32) x12 0)) 256 256) + mm (tr (rowsAt (inc fh0) 512 256)) (rowsAt (mm (mat (φ := .f32) x0) (mat3 (φ := .f32) x12 0)) 512 256) + mm (tr (rowsAt (inc fh0) 768 256)) (rowsAt (mm (mat (φ := .f32) x0) (mat3 (φ := .f32) x12 0)) 768 256) + mm (tr (rowsAt (inc fh0) 1024 256)) (rowsAt (mm (mat (φ := .f32) x0) (mat3 (φ := .f32) x12 0)) 1024 256) := by
  rw [kernelRun0_A.sl.v205, mat32_readCov, w_HS4_5, rowsAt_zero]

theorem w_HS4_6 :
    left32 (n := 6144) (m := 128) (kernelRun0_A.sl.HS4_6 c arg0 harg0 arg12 harg12 arg19 arg23 arg28 arg29 x0 x12 fh0)
      = mm (tr (rowsAt (inc fh0) 0 256)) (rowsAt (mm (mat (φ := .f32) x0) (mat3 (φ := .f32) x12 0)) 0 256) + mm (tr (rowsAt (inc fh0) 256 256)) (rowsAt (mm (mat (φ := .f32) x0) (mat3 (φ := .f32) x12 0)) 256 256) + mm (tr (rowsAt (inc fh0) 512 256)) (rowsAt (mm (mat (φ := .f32) x0) (mat3 (φ := .f32) x12 0)) 512 256) + mm (tr (rowsAt (inc fh0) 768 256)) (rowsAt (mm (mat (φ := .f32) x0) (mat3 (φ := .f32) x12 0)) 768 256) + mm (tr (rowsAt (inc fh0) 1024 256)) (rowsAt (mm (mat (φ := .f32) x0) (mat3 (φ := .f32) x12 0)) 1024 256) + mm (tr (rowsAt (inc fh0) 1280 256)) (rowsAt (mm (mat (φ := .f32) x0) (mat3 (φ := .f32) x12 0)) 1280 256) := by
  rw [kernelRun0_A.sl.HS4_6, left32_cons, paste_all, pay33, w_r_9, w_v203, w_v205]

theorem w_v225 :
    mat (n := 6144) (m := 128) (φ := .f32) (kernelRun0_A.sl.v225 c arg0 harg0 arg12 harg12 arg19 arg23 arg28 arg29 x0 x12 fh0)
      = mm (tr (rowsAt (inc fh0) 0 256)) (rowsAt (mm (mat (φ := .f32) x0) (mat3 (φ := .f32) x12 0)) 0 256) + mm (tr (rowsAt (inc fh0) 256 256)) (rowsAt (mm (mat (φ := .f32) x0) (mat3 (φ := .f32) x12 0)) 256 256) + mm (tr (rowsAt (inc fh0) 512 256)) (rowsAt (mm (mat (φ := .f32) x0) (mat3 (φ := .f32) x12 0)) 512 256) + mm (tr (rowsAt (inc fh0) 768 256)) (rowsAt (mm (mat (φ := .f32) x0) (mat3 (φ := .f32) x12 0)) 768 256) + mm (tr (rowsAt (inc fh0) 1024 256)) (rowsAt (mm (mat (φ := .f32) x0) (mat3 (φ := .f32) x12 0)) 1024 256) + mm (tr (rowsAt (inc fh0) 1280 256)) (rowsAt (mm (mat (φ := .f32) x0) (mat3 (φ := .f32) x12 0)) 1280 256) := by
  rw [kernelRun0_A.sl.v225, mat32_readCov, w_HS4_6, rowsAt_zero]

theorem w_r_11 :
    mat (n := 6144) (m := 128) (φ := .f32) (kernelRun0_A.sl.r_11 c arg0 harg0 arg12 harg12 arg19 arg23 arg28 arg29 x0 x12 fh0)
      = mm (tr (rowsAt (inc fh0) 0 256)) (rowsAt (mm (mat (φ := .f32) x0) (mat3 (φ := .f32) x12 0)) 0 256) + mm (tr (rowsAt (inc fh0) 256 256)) (rowsAt (mm (mat (φ := .f32) x0) (mat3 (φ := .f32) x12 0)) 256 256) + mm (tr (rowsAt (inc fh0) 512 256)) (rowsAt (mm (mat (φ := .f32) x0) (mat3 (φ := .f32) x12 0)) 512 256) + mm (tr (rowsAt (inc fh0) 768 256)) (rowsAt (mm (mat (φ := .f32) x0) (mat3 (φ := .f32) x12 0)) 768 256) + mm (tr (rowsAt (inc fh0) 1024 256)) (rowsAt (mm (mat (φ := .f32) x0) (mat3 (φ := .f32) x12 0)) 1024 256) + mm (tr (rowsAt (inc fh0) 1280 256)) (rowsAt (mm (mat (φ := .f32) x0) (mat3 (φ := .f32) x12 0)) 1280 256) + mm (tr (rowsAt (inc fh0) 1536 256)) (rowsAt (mm (mat (φ := .f32) x0) (mat3 (φ := .f32) x12 0)) 1536 256) := by
  rw [kernelRun0_A.sl.r_11, pay36, w_v216, w_v223, w_v225]

theorem w_HS4_7 :
    left32 (n := 6144) (m := 128) (kernelRun0_A.sl.HS4_7 c arg0 harg0 arg12 harg12 arg19 arg23 arg28 arg29 x0 x12 fh0)
      = mm (tr (rowsAt (inc fh0) 0 256)) (rowsAt (mm (mat (φ := .f32) x0) (mat3 (φ := .f32) x12 0)) 0 256) + mm (tr (rowsAt (inc fh0) 256 256)) (rowsAt (mm (mat (φ := .f32) x0) (mat3 (φ := .f32) x12 0)) 256 256) + mm (tr (rowsAt (inc fh0) 512 256)) (rowsAt (mm (mat (φ := .f32) x0) (mat3 (φ := .f32) x12 0)) 512 256) + mm (tr (rowsAt (inc fh0) 768 256)) (rowsAt (mm (mat (φ := .f32) x0) (mat3 (φ := .f32) x12 0)) 768 256) + mm (tr (rowsAt (inc fh0) 1024 256)) (rowsAt (mm (mat (φ := .f32) x0) (mat3 (φ := .f32) x12 0)) 1024 256) + mm (tr (rowsAt (inc fh0) 1280 256)) (rowsAt (mm (mat (φ := .f32) x0) (mat3 (φ := .f32) x12 0)) 1280 256) + mm (tr (rowsAt (inc fh0) 1536 256)) (rowsAt (mm (mat (φ := .f32) x0) (mat3 (φ := .f32) x12 0)) 1536 256) := by
  rw [kernelRun0_A.sl.HS4_7, left32_cons, paste_all, pay37, w_r_11]

theorem w_v245 :
    mat (n := 6144) (m := 128) (φ := .f32) (kernelRun0_A.sl.v245 c arg0 harg0 arg12 harg12 arg19 arg23 arg28 arg29 x0 x12 fh0)
      = mm (tr (rowsAt (inc fh0) 0 256)) (rowsAt (mm (mat (φ := .f32) x0) (mat3 (φ := .f32) x12 0)) 0 256) + mm (tr (rowsAt (inc fh0) 256 256)) (rowsAt (mm (mat (φ := .f32) x0) (mat3 (φ := .f32) x12 0)) 256 256) + mm (tr (rowsAt (inc fh0) 512 256)) (rowsAt (mm (mat (φ := .f32) x0) (mat3 (φ := .f32) x12 0)) 512 256) + mm (tr (rowsAt (inc fh0) 768 256)) (rowsAt (mm (mat (φ := .f32) x0) (mat3 (φ := .f32) x12 0)) 768 256) + mm (tr (rowsAt (inc fh0) 1024 256)) (rowsAt (mm (mat (φ := .f32) x0) (mat3 (φ := .f32) x12 0)) 1024 256) + mm (tr (rowsAt (inc fh0) 1280 256)) (rowsAt (mm (mat (φ := .f32) x0) (mat3 (φ := .f32) x12 0)) 1280 256) + mm (tr (rowsAt (inc fh0) 1536 256)) (rowsAt (mm (mat (φ := .f32) x0) (mat3 (φ := .f32) x12 0)) 1536 256) := by
  rw [kernelRun0_A.sl.v245, mat32_readCov, w_HS4_7, rowsAt_zero]

theorem w_HS4_8 :
    left32 (n := 6144) (m := 128) (kernelRun0_A.sl.HS4_8 c arg0 harg0 arg12 harg12 arg19 arg23 arg28 arg29 x0 x12 fh0)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 0 := by
  rw [kernelRun0_A.sl.HS4_8, left32_cons, paste_all, pay40, w_v236, w_v243, w_v245]
  exact (mm_tr_blocks _ _).trans (fill_zero _ _).symm

theorem w_v258 :
    mat (n := 256) (m := 128) (φ := .f32) (kernelRun0_A.sl.v258 c arg0 harg0 arg12 harg12 arg19 arg23 arg28 arg29 x0 x12 fh0)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 0) 0 256 := by
  rw [kernelRun0_A.sl.v258, mat32_readCov, w_HS4_8]

theorem w_r_2 :
    mat (n := 4096) (m := 128) (φ := .bf16) (kernelRun0_A.sl.r_2 c arg2 harg2 arg13 harg13 x2 x13)
      = mm (mat (φ := .f32) x2) (mat3 (φ := .f32) x13 0) := by
  rw [kernelRun0_A.sl.r_2, pay4, mat_load, face_load0]

theorem w_HS2_1 :
    left16 (n := 4096) (m := 128) (kernelRun0_A.sl.HS2_1 c arg2 harg2 arg13 harg13 x2 x13)
      = mm (mat (φ := .f32) x2) (mat3 (φ := .f32) x13 0) := by
  rw [kernelRun0_A.sl.HS2_1, left16_cons, paste_all, pay5, w_r_2]

theorem w_v259 :
    mat (n := 4096) (m := 128) (φ := .bf16) (kernelRun0_A.sl.v259 c arg2 harg2 arg13 harg13 arg21 x2 x13)
      = mm (mat (φ := .f32) x2) (mat3 (φ := .f32) x13 0) := by
  rw [kernelRun0_A.sl.v259, mat16_readCov, w_HS2_1, rowsAt_zero]

theorem w_HS4_9 :
    left32 (n := 6144) (m := 128) (kernelRun0_A.sl.HS4_9 c arg0 harg0 arg2 harg2 arg12 harg12 arg13 harg13 arg19 arg21 arg23 arg28 arg29 arg30 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 1 := by
  rw [kernelRun0_A.sl.HS4_9, left32_cons, w_HS4_8, pay41, w_v256, w_v258, w_v259, mm_rowsAt]
  exact paste_fill_add _ _ 0 0 rfl

theorem w_v273 :
    mat (n := 256) (m := 128) (φ := .f32) (kernelRun0_A.sl.v273 c arg0 harg0 arg2 harg2 arg12 harg12 arg13 harg13 arg19 arg21 arg23 arg28 arg29 arg30 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 1) 256 256 := by
  rw [kernelRun0_A.sl.v273, mat32_readCov, w_HS4_9]

theorem w_HS4_10 :
    left32 (n := 6144) (m := 128) (kernelRun0_A.sl.HS4_10 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 2 := by
  rw [kernelRun0_A.sl.HS4_10, left32_cons, w_HS4_9, pay42, w_v271, w_v273, w_v259, mm_rowsAt]
  exact paste_fill_add _ _ 1 256 rfl

theorem w_v288 :
    mat (n := 256) (m := 128) (φ := .f32) (kernelRun0_A.sl.v288 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 2) 512 256 := by
  rw [kernelRun0_A.sl.v288, mat32_readCov, w_HS4_10]

theorem w_HS4_11 :
    left32 (n := 6144) (m := 128) (kernelRun0_A.sl.HS4_11 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 3 := by
  rw [kernelRun0_A.sl.HS4_11, left32_cons, w_HS4_10, pay43, w_v286, w_v288, w_v259, mm_rowsAt]
  exact paste_fill_add _ _ 2 512 rfl

theorem w_v303 :
    mat (n := 256) (m := 128) (φ := .f32) (kernelRun0_A.sl.v303 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 3) 768 256 := by
  rw [kernelRun0_A.sl.v303, mat32_readCov, w_HS4_11]

theorem w_HS4_12 :
    left32 (n := 6144) (m := 128) (kernelRun0_A.sl.HS4_12 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 4 := by
  rw [kernelRun0_A.sl.HS4_12, left32_cons, w_HS4_11, pay44, w_v301, w_v303, w_v259, mm_rowsAt]
  exact paste_fill_add _ _ 3 768 rfl

theorem w_v318 :
    mat (n := 256) (m := 128) (φ := .f32) (kernelRun0_A.sl.v318 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 4) 1024 256 := by
  rw [kernelRun0_A.sl.v318, mat32_readCov, w_HS4_12]

theorem w_HS4_13 :
    left32 (n := 6144) (m := 128) (kernelRun0_A.sl.HS4_13 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 5 := by
  rw [kernelRun0_A.sl.HS4_13, left32_cons, w_HS4_12, pay45, w_v316, w_v318, w_v259, mm_rowsAt]
  exact paste_fill_add _ _ 4 1024 rfl

theorem w_v333 :
    mat (n := 256) (m := 128) (φ := .f32) (kernelRun0_A.sl.v333 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 5) 1280 256 := by
  rw [kernelRun0_A.sl.v333, mat32_readCov, w_HS4_13]

theorem w_r_12 :
    mat (n := 256) (m := 128) (φ := .f32) (kernelRun0_A.sl.r_12 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 5) 1280 256 + mm (rowsAt (inc2 fh1) 1280 256) (mm (mat (φ := .f32) x2) (mat3 (φ := .f32) x13 0)) := by
  rw [kernelRun0_A.sl.r_12, pay46, w_v331, w_v333, w_v259]

theorem w_HS4_14 :
    left32 (n := 6144) (m := 128) (kernelRun0_A.sl.HS4_14 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 6 := by
  rw [kernelRun0_A.sl.HS4_14, left32_cons, w_HS4_13, pay47, w_r_12, mm_rowsAt]
  exact paste_fill_add _ _ 5 1280 rfl

theorem w_v348 :
    mat (n := 256) (m := 128) (φ := .f32) (kernelRun0_A.sl.v348 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 6) 1536 256 := by
  rw [kernelRun0_A.sl.v348, mat32_readCov, w_HS4_14]

theorem w_HS4_15 :
    left32 (n := 6144) (m := 128) (kernelRun0_A.sl.HS4_15 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 7 := by
  rw [kernelRun0_A.sl.HS4_15, left32_cons, w_HS4_14, pay48, w_v346, w_v348, w_v259, mm_rowsAt]
  exact paste_fill_add _ _ 6 1536 rfl

theorem w_v363 :
    mat (n := 256) (m := 128) (φ := .f32) (kernelRun0_A.sl.v363 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 7) 1792 256 := by
  rw [kernelRun0_A.sl.v363, mat32_readCov, w_HS4_15]

theorem w_HS4_16 :
    left32 (n := 6144) (m := 128) (kernelRun0_A.sl.HS4_16 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 8 := by
  rw [kernelRun0_A.sl.HS4_16, left32_cons, w_HS4_15, pay50, w_r_13, w_v363, w_v259, mm_rowsAt]
  exact paste_fill_add _ _ 7 1792 rfl

theorem w_v378 :
    mat (n := 256) (m := 128) (φ := .f32) (kernelRun0_A.sl.v378 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 8) 2048 256 := by
  rw [kernelRun0_A.sl.v378, mat32_readCov, w_HS4_16]

theorem w_HS4_17 :
    left32 (n := 6144) (m := 128) (kernelRun0_A.sl.HS4_17 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 9 := by
  rw [kernelRun0_A.sl.HS4_17, left32_cons, w_HS4_16, pay51, w_v376, w_v378, w_v259, mm_rowsAt]
  exact paste_fill_add _ _ 8 2048 rfl

theorem w_v393 :
    mat (n := 256) (m := 128) (φ := .f32) (kernelRun0_A.sl.v393 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 9) 2304 256 := by
  rw [kernelRun0_A.sl.v393, mat32_readCov, w_HS4_17]

theorem w_HS4_18 :
    left32 (n := 6144) (m := 128) (kernelRun0_A.sl.HS4_18 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 10 := by
  rw [kernelRun0_A.sl.HS4_18, left32_cons, w_HS4_17, pay52, w_v391, w_v393, w_v259, mm_rowsAt]
  exact paste_fill_add _ _ 9 2304 rfl

theorem w_v408 :
    mat (n := 256) (m := 128) (φ := .f32) (kernelRun0_A.sl.v408 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 10) 2560 256 := by
  rw [kernelRun0_A.sl.v408, mat32_readCov, w_HS4_18]

theorem w_HS4_19 :
    left32 (n := 6144) (m := 128) (kernelRun0_A.sl.HS4_19 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 11 := by
  rw [kernelRun0_A.sl.HS4_19, left32_cons, w_HS4_18, pay53, w_v406, w_v408, w_v259, mm_rowsAt]
  exact paste_fill_add _ _ 10 2560 rfl

theorem w_v423 :
    mat (n := 256) (m := 128) (φ := .f32) (kernelRun0_A.sl.v423 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 11) 2816 256 := by
  rw [kernelRun0_A.sl.v423, mat32_readCov, w_HS4_19]

theorem w_HS4_20 :
    left32 (n := 6144) (m := 128) (kernelRun0_A.sl.HS4_20 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 12 := by
  rw [kernelRun0_A.sl.HS4_20, left32_cons, w_HS4_19, pay54, w_v421, w_v423, w_v259, mm_rowsAt]
  exact paste_fill_add _ _ 11 2816 rfl

theorem w_v438 :
    mat (n := 256) (m := 128) (φ := .f32) (kernelRun0_A.sl.v438 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 12) 3072 256 := by
  rw [kernelRun0_A.sl.v438, mat32_readCov, w_HS4_20]

theorem w_HS4_21 :
    left32 (n := 6144) (m := 128) (kernelRun0_A.sl.HS4_21 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 13 := by
  rw [kernelRun0_A.sl.HS4_21, left32_cons, w_HS4_20, pay55, w_v436, w_v438, w_v259, mm_rowsAt]
  exact paste_fill_add _ _ 12 3072 rfl

theorem w_v453 :
    mat (n := 256) (m := 128) (φ := .f32) (kernelRun0_A.sl.v453 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 13) 3328 256 := by
  rw [kernelRun0_A.sl.v453, mat32_readCov, w_HS4_21]

theorem w_HS4_22 :
    left32 (n := 6144) (m := 128) (kernelRun0_A.sl.HS4_22 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 14 := by
  rw [kernelRun0_A.sl.HS4_22, left32_cons, w_HS4_21, pay56, w_v451, w_v453, w_v259, mm_rowsAt]
  exact paste_fill_add _ _ 13 3328 rfl

theorem w_v468 :
    mat (n := 256) (m := 128) (φ := .f32) (kernelRun0_A.sl.v468 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 14) 3584 256 := by
  rw [kernelRun0_A.sl.v468, mat32_readCov, w_HS4_22]

theorem w_r_14 :
    mat (n := 256) (m := 128) (φ := .f32) (kernelRun0_A.sl.r_14 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 14) 3584 256 + mm (rowsAt (inc2 fh1) 3584 256) (mm (mat (φ := .f32) x2) (mat3 (φ := .f32) x13 0)) := by
  rw [kernelRun0_A.sl.r_14, pay57, w_v466, w_v468, w_v259]

theorem w_HS4_23 :
    left32 (n := 6144) (m := 128) (kernelRun0_A.sl.HS4_23 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 15 := by
  rw [kernelRun0_A.sl.HS4_23, left32_cons, w_HS4_22, pay58, w_r_14, mm_rowsAt]
  exact paste_fill_add _ _ 14 3584 rfl

theorem w_v483 :
    mat (n := 256) (m := 128) (φ := .f32) (kernelRun0_A.sl.v483 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 15) 3840 256 := by
  rw [kernelRun0_A.sl.v483, mat32_readCov, w_HS4_23]

theorem w_HS4_24 :
    left32 (n := 6144) (m := 128) (kernelRun0_A.sl.HS4_24 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 16 := by
  rw [kernelRun0_A.sl.HS4_24, left32_cons, w_HS4_23, pay59, w_v481, w_v483, w_v259, mm_rowsAt]
  exact paste_fill_add _ _ 15 3840 rfl

theorem w_v498 :
    mat (n := 256) (m := 128) (φ := .f32) (kernelRun0_A.sl.v498 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 16) 4096 256 := by
  rw [kernelRun0_A.sl.v498, mat32_readCov, w_HS4_24]

theorem w_HS4_25 :
    left32 (n := 6144) (m := 128) (kernelRun0_A.sl.HS4_25 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 17 := by
  rw [kernelRun0_A.sl.HS4_25, left32_cons, w_HS4_24, pay61, w_r_15, w_v498, w_v259, mm_rowsAt]
  exact paste_fill_add _ _ 16 4096 rfl

theorem w_v513 :
    mat (n := 256) (m := 128) (φ := .f32) (kernelRun0_A.sl.v513 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 17) 4352 256 := by
  rw [kernelRun0_A.sl.v513, mat32_readCov, w_HS4_25]

theorem w_HS4_26 :
    left32 (n := 6144) (m := 128) (kernelRun0_A.sl.HS4_26 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 18 := by
  rw [kernelRun0_A.sl.HS4_26, left32_cons, w_HS4_25, pay62, w_v511, w_v513, w_v259, mm_rowsAt]
  exact paste_fill_add _ _ 17 4352 rfl

theorem w_v528 :
    mat (n := 256) (m := 128) (φ := .f32) (kernelRun0_A.sl.v528 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 18) 4608 256 := by
  rw [kernelRun0_A.sl.v528, mat32_readCov, w_HS4_26]

theorem w_HS4_27 :
    left32 (n := 6144) (m := 128) (kernelRun0_A.sl.HS4_27 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 19 := by
  rw [kernelRun0_A.sl.HS4_27, left32_cons, w_HS4_26, pay64, w_r_16, w_v528, w_v259, mm_rowsAt]
  exact paste_fill_add _ _ 18 4608 rfl

theorem w_v543 :
    mat (n := 256) (m := 128) (φ := .f32) (kernelRun0_A.sl.v543 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 19) 4864 256 := by
  rw [kernelRun0_A.sl.v543, mat32_readCov, w_HS4_27]

theorem w_HS4_28 :
    left32 (n := 6144) (m := 128) (kernelRun0_A.sl.HS4_28 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 20 := by
  rw [kernelRun0_A.sl.HS4_28, left32_cons, w_HS4_27, pay65, w_v541, w_v543, w_v259, mm_rowsAt]
  exact paste_fill_add _ _ 19 4864 rfl

theorem w_v558 :
    mat (n := 256) (m := 128) (φ := .f32) (kernelRun0_A.sl.v558 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 20) 5120 256 := by
  rw [kernelRun0_A.sl.v558, mat32_readCov, w_HS4_28]

theorem w_HS4_29 :
    left32 (n := 6144) (m := 128) (kernelRun0_A.sl.HS4_29 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 21 := by
  rw [kernelRun0_A.sl.HS4_29, left32_cons, w_HS4_28, pay66, w_v556, w_v558, w_v259, mm_rowsAt]
  exact paste_fill_add _ _ 20 5120 rfl

theorem w_v573 :
    mat (n := 256) (m := 128) (φ := .f32) (kernelRun0_A.sl.v573 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 21) 5376 256 := by
  rw [kernelRun0_A.sl.v573, mat32_readCov, w_HS4_29]

theorem w_HS4_30 :
    left32 (n := 6144) (m := 128) (kernelRun0_A.sl.HS4_30 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 22 := by
  rw [kernelRun0_A.sl.HS4_30, left32_cons, w_HS4_29, pay67, w_v571, w_v573, w_v259, mm_rowsAt]
  exact paste_fill_add _ _ 21 5376 rfl

theorem w_v588 :
    mat (n := 256) (m := 128) (φ := .f32) (kernelRun0_A.sl.v588 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 22) 5632 256 := by
  rw [kernelRun0_A.sl.v588, mat32_readCov, w_HS4_30]

theorem w_HS4_31 :
    left32 (n := 6144) (m := 128) (kernelRun0_A.sl.HS4_31 c arg0 harg0 arg2 harg2 arg12 harg12 arg13 harg13 arg19 arg21 arg23 arg28 arg29 arg30 arg31 x0 x2 x12 x13 fh0 fh1)
      = fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 23 := by
  rw [kernelRun0_A.sl.HS4_31, left32_cons, w_HS4_30, pay68, w_v586, w_v588, w_v259, mm_rowsAt]
  exact paste_fill_add _ _ 22 5632 rfl

theorem w_v603 :
    mat (n := 256) (m := 128) (φ := .f32) (kernelRun0_A.sl.v603 c arg0 harg0 arg2 harg2 arg12 harg12 arg13 harg13 arg19 arg21 arg23 arg28 arg29 arg30 arg31 x0 x2 x12 x13 fh0 fh1)
      = rowsAt (fill (mm (tr (inc fh0)) (mm (mat (φ := .f32) x0) (mat3 (φ := .f32) x12 0))) (mm (tr (inc fh0)) (mm (mat (φ := .f32) x0) (mat3 (φ := .f32) x12 0)) + mm (inc2 fh1) (mm (mat (φ := .f32) x2) (mat3 (φ := .f32) x13 0))) 23) 5888 256 := by
  rw [kernelRun0_A.sl.v603, mat32_readCov, w_HS4_31]

theorem w_HS4_32 :
    left32 (n := 6144) (m := 128) (kernelRun0_A.sl.HS4_32 c arg0 harg0 arg2 harg2 arg12 harg12 arg13 harg13 arg19 arg21 arg23 arg28 arg29 arg30 arg31 x0 x2 x12 x13 fh0 fh1)
      = mm (tr (inc fh0)) (mm (mat (φ := .f32) x0) (mat3 (φ := .f32) x12 0)) + mm (inc2 fh1) (mm (mat (φ := .f32) x2) (mat3 (φ := .f32) x13 0)) := by
  rw [kernelRun0_A.sl.HS4_32, left32_cons, w_HS4_31, pay69, w_v601, w_v603, w_v259, mm_rowsAt]
  exact (paste_fill_add _ _ 23 5888 rfl).trans (fill_all _ _ 24 (by decide))

theorem w_v630 :
    mat (n := 6144) (m := 128) (φ := .f32) (kernelRun0_A.sl.v630 c arg0 harg0 arg2 harg2 arg12 harg12 arg13 harg13 arg19 arg21 arg23 arg28 arg29 arg30 arg31 x0 x2 x12 x13 fh0 fh1)
      = mm (tr (inc fh0)) (mm (mat (φ := .f32) x0) (mat3 (φ := .f32) x12 0)) + mm (inc2 fh1) (mm (mat (φ := .f32) x2) (mat3 (φ := .f32) x13 0)) := by
  rw [kernelRun0_A.sl.v630, mat32_readCov, w_HS4_32, rowsAt_zero]

theorem w_r_4 :
    mat (n := 256) (m := 128) (φ := .f32) (kernelRun0_A.sl.r_4 c arg1 harg1 arg5 harg5 x1 x5)
      = mm (tr (mat (φ := .f32) x5)) (mat (φ := .f32) x1) := by
  rw [kernelRun0_A.sl.r_4, pay8, w_r_1, mat_load]

theorem w_r_6 :
    mat (n := 256) (m := 128) (φ := .f32) (kernelRun0_A.sl.r_6 c arg1 harg1 arg5 harg5 arg6 harg6 arg11 harg11 x1 x5 x6 x11)
      = mm (scale (stk x6 2) (mm (tr (mat (φ := .f32) x5)) (mat (φ := .f32) x1))) (mat4 (φ := .f32) x11 0 0) + mm (scale (sq (stk x6 2)) (mm (tr (mat (φ := .f32) x5)) (mat (φ := .f32) x1))) (mat4 (φ := .f32) x11 0 1) := by
  rw [kernelRun0_A.sl.r_6, pay12, w_r_4, stalk_load2, face2_loadD00, face2_loadD01]

theorem w_r_3 :
    mat (n := 256) (m := 128) (φ := .f32) (kernelRun0_A.sl.r_3 c arg1 harg1 arg4 harg4 x1 x4)
      = mm (tr (mat (φ := .f32) x4)) (mat (φ := .f32) x1) := by
  rw [kernelRun0_A.sl.r_3, pay7, w_r_1, mat_load]

theorem w_HS7_2 :
    left16 (n := 512) (m := 128) (kernelRun0_A.sl.HS7_2 c arg1 harg1 arg4 harg4 arg5 harg5 arg6 harg6 arg10 harg10 arg11 harg11 x1 x4 x5 x6 x10 x11)
      = paste (paste (left16 (n := 512) (m := 128) []) 0 (mm (scale (stk x6 1) (mm (tr (mat (φ := .f32) x4)) (mat (φ := .f32) x1))) (mat4 (φ := .f32) x10 0 0) + mm (scale (sq (stk x6 1)) (mm (tr (mat (φ := .f32) x4)) (mat (φ := .f32) x1))) (mat4 (φ := .f32) x10 0 1))) 256 (mm (scale (stk x6 2) (mm (tr (mat (φ := .f32) x5)) (mat (φ := .f32) x1))) (mat4 (φ := .f32) x11 0 0) + mm (scale (sq (stk x6 2)) (mm (tr (mat (φ := .f32) x5)) (mat (φ := .f32) x1))) (mat4 (φ := .f32) x11 0 1)) := by
  rw [kernelRun0_A.sl.HS7_2, left16_cons, left16_cons, pay13, w_r_6, pay11, w_r_3, stalk_load1, face2_loadD00, face2_loadD01]

theorem w_v634 :
    mat (n := 256) (m := 128) (φ := .bf16) (kernelRun0_A.sl.v634 c arg1 harg1 arg4 harg4 arg5 harg5 arg6 harg6 arg10 harg10 arg11 harg11 arg26 x1 x4 x5 x6 x10 x11)
      = mm (scale (stk x6 1) (mm (tr (mat (φ := .f32) x4)) (mat (φ := .f32) x1))) (mat4 (φ := .f32) x10 0 0) + mm (scale (sq (stk x6 1)) (mm (tr (mat (φ := .f32) x4)) (mat (φ := .f32) x1))) (mat4 (φ := .f32) x10 0 1) := by
  rw [kernelRun0_A.sl.v634, mat16_readCov, w_HS7_2, rowsAt_paste_of_disjoint _ 256 0 _ (Or.inl (by decide)), rowsAt_paste _ 0 _ (by decide)]

theorem w_r_18 :
    mat (n := 6144) (m := 128) (φ := .f32) (kernelRun0_A.sl.r_18 c arg0 harg0 arg1 harg1 arg2 harg2 arg4 harg4 arg5 harg5 arg6 harg6 arg9 harg9 arg10 harg10 arg11 harg11 arg12 harg12 arg13 harg13 arg19 arg21 arg23 arg26 arg28 arg29 arg30 arg31 x0 x1 x2 x4 x5 x6 x9 x10 x11 x12 x13 fh0 fh1)
      = mm (mat (φ := .f32) x1) (mat3 (φ := .f32) x9 0) + (mm (tr (inc fh0)) (mm (mat (φ := .f32) x0) (mat3 (φ := .f32) x12 0)) + mm (inc2 fh1) (mm (mat (φ := .f32) x2) (mat3 (φ := .f32) x13 0))) + (mm (mat (φ := .f32) x4) (mm (scale (stk x6 1) (mm (tr (mat (φ := .f32) x4)) (mat (φ := .f32) x1))) (mat4 (φ := .f32) x10 0 0) + mm (scale (sq (stk x6 1)) (mm (tr (mat (φ := .f32) x4)) (mat (φ := .f32) x1))) (mat4 (φ := .f32) x10 0 1))) := by
  rw [kernelRun0_A.sl.r_18, pay72, w_r_1, face_load0, w_v630, mat_load, w_v634]

theorem w_r_19 :
    mat (n := 6144) (m := 256) (φ := .f32) (kernelRun0_A.sl.r_19 c arg5 harg5 x5)
      = mat (φ := .f32) x5 := by
  rw [kernelRun0_A.sl.r_19, mat_load]

theorem w_v639 :
    mat (n := 256) (m := 128) (φ := .bf16) (kernelRun0_A.sl.v639 c arg1 harg1 arg4 harg4 arg5 harg5 arg6 harg6 arg10 harg10 arg11 harg11 arg26 x1 x4 x5 x6 x10 x11)
      = mm (scale (stk x6 2) (mm (tr (mat (φ := .f32) x5)) (mat (φ := .f32) x1))) (mat4 (φ := .f32) x11 0 0) + mm (scale (sq (stk x6 2)) (mm (tr (mat (φ := .f32) x5)) (mat (φ := .f32) x1))) (mat4 (φ := .f32) x11 0 1) := by
  rw [kernelRun0_A.sl.v639, mat16_readCov, w_HS7_2, rowsAt_paste _ 256 _ (by decide)]

theorem w_HS1_2 :
    left16 (n := 6144) (m := 128) (kernelRun0_A.sl.HS1_2 c arg0 harg0 arg1 harg1 arg2 harg2 arg4 harg4 arg5 harg5 arg6 harg6 arg8 harg8 arg9 harg9 arg10 harg10 arg11 harg11 arg12 harg12 arg13 harg13 arg19 arg21 arg23 arg26 arg28 arg29 arg30 arg31 x0 x1 x2 x4 x5 x6 x8 x9 x10 x11 x12 x13 fh0 fh1)
      = mm (lgs (mm (mat (φ := .f32) x1) (mat3 (φ := .f32) x9 0) + (mm (tr (inc fh0)) (mm (mat (φ := .f32) x0) (mat3 (φ := .f32) x12 0)) + mm (inc2 fh1) (mm (mat (φ := .f32) x2) (mat3 (φ := .f32) x13 0))) + (mm (mat (φ := .f32) x4) (mm (scale (stk x6 1) (mm (tr (mat (φ := .f32) x4)) (mat (φ := .f32) x1))) (mat4 (φ := .f32) x10 0 0) + mm (scale (sq (stk x6 1)) (mm (tr (mat (φ := .f32) x4)) (mat (φ := .f32) x1))) (mat4 (φ := .f32) x10 0 1))) + (mm (mat (φ := .f32) x5) (mm (scale (stk x6 2) (mm (tr (mat (φ := .f32) x5)) (mat (φ := .f32) x1))) (mat4 (φ := .f32) x11 0 0) + mm (scale (sq (stk x6 2)) (mm (tr (mat (φ := .f32) x5)) (mat (φ := .f32) x1))) (mat4 (φ := .f32) x11 0 1))))) (mat3 (φ := .f32) x8 1) := by
  rw [kernelRun0_A.sl.HS1_2, left16_cons, paste_all, pay73, w_r_18, w_r_19, w_v639, face_load1]

theorem w_v675 :
    mat (n := 6144) (m := 128) (φ := .bf16) (kernelRun0_A.sl.v675 c arg0 harg0 arg1 harg1 arg2 harg2 arg4 harg4 arg5 harg5 arg6 harg6 arg8 harg8 arg9 harg9 arg10 harg10 arg11 harg11 arg12 harg12 arg13 harg13 arg19 arg20 arg21 arg23 arg26 arg28 arg29 arg30 arg31 x0 x1 x2 x4 x5 x6 x8 x9 x10 x11 x12 x13 fh0 fh1)
      = mm (lgs (mm (mat (φ := .f32) x1) (mat3 (φ := .f32) x9 0) + (mm (tr (inc fh0)) (mm (mat (φ := .f32) x0) (mat3 (φ := .f32) x12 0)) + mm (inc2 fh1) (mm (mat (φ := .f32) x2) (mat3 (φ := .f32) x13 0))) + (mm (mat (φ := .f32) x4) (mm (scale (stk x6 1) (mm (tr (mat (φ := .f32) x4)) (mat (φ := .f32) x1))) (mat4 (φ := .f32) x10 0 0) + mm (scale (sq (stk x6 1)) (mm (tr (mat (φ := .f32) x4)) (mat (φ := .f32) x1))) (mat4 (φ := .f32) x10 0 1))) + (mm (mat (φ := .f32) x5) (mm (scale (stk x6 2) (mm (tr (mat (φ := .f32) x5)) (mat (φ := .f32) x1))) (mat4 (φ := .f32) x11 0 0) + mm (scale (sq (stk x6 2)) (mm (tr (mat (φ := .f32) x5)) (mat (φ := .f32) x1))) (mat4 (φ := .f32) x11 0 1))))) (mat3 (φ := .f32) x8 1) := by
  rw [kernelRun0_A.sl.v675, mat16_readCov, w_HS1_2, rowsAt_zero]

theorem w_HS8_8 :
    left32 (n := 2048) (m := 128) (kernelRun0_A.sl.HS8_8 c arg0 harg0 arg1 harg1 arg2 harg2 arg4 harg4 arg5 harg5 arg6 harg6 arg8 harg8 arg9 harg9 arg10 harg10 arg11 harg11 arg12 harg12 arg13 harg13 arg19 arg20 arg21 arg23 arg26 arg28 arg29 arg30 arg31 x0 x1 x2 x4 x5 x6 x8 x9 x10 x11 x12 x13 fh0 fh1)
      = mm (inc fh0) (mm (lgs (mm (mat (φ := .f32) x1) (mat3 (φ := .f32) x9 0) + (mm (tr (inc fh0)) (mm (mat (φ := .f32) x0) (mat3 (φ := .f32) x12 0)) + mm (inc2 fh1) (mm (mat (φ := .f32) x2) (mat3 (φ := .f32) x13 0))) + (mm (mat (φ := .f32) x4) (mm (scale (stk x6 1) (mm (tr (mat (φ := .f32) x4)) (mat (φ := .f32) x1))) (mat4 (φ := .f32) x10 0 0) + mm (scale (sq (stk x6 1)) (mm (tr (mat (φ := .f32) x4)) (mat (φ := .f32) x1))) (mat4 (φ := .f32) x10 0 1))) + (mm (mat (φ := .f32) x5) (mm (scale (stk x6 2) (mm (tr (mat (φ := .f32) x5)) (mat (φ := .f32) x1))) (mat4 (φ := .f32) x11 0 0) + mm (scale (sq (stk x6 2)) (mm (tr (mat (φ := .f32) x5)) (mat (φ := .f32) x1))) (mat4 (φ := .f32) x11 0 1))))) (mat3 (φ := .f32) x8 1)) := by
  rw [kernelRun0_A.sl.HS8_8, left32_cons, left32_cons, left32_cons, left32_cons, left32_cons, left32_cons, left32_cons, left32_cons, pay82, pay81, pay80, pay79, pay78, pay77, pay76, pay75, w_v761, w_v675, w_v751, w_v738, w_v725, w_v712, w_v699, w_v686, w_v673]
  rw [mm_rowsAt, mm_rowsAt, mm_rowsAt, mm_rowsAt, mm_rowsAt, mm_rowsAt, mm_rowsAt, mm_rowsAt]
  have h0 : left32 (n := 2048) (m := 128) [] = fill (left32 (n := 2048) (m := 128) []) (mm (inc fh0) (mm (lgs (mm (mat (φ := .f32) x1) (mat3 (φ := .f32) x9 0) + (mm (tr (inc fh0)) (mm (mat (φ := .f32) x0) (mat3 (φ := .f32) x12 0)) + mm (inc2 fh1) (mm (mat (φ := .f32) x2) (mat3 (φ := .f32) x13 0))) + (mm (mat (φ := .f32) x4) (mm (scale (stk x6 1) (mm (tr (mat (φ := .f32) x4)) (mat (φ := .f32) x1))) (mat4 (φ := .f32) x10 0 0) + mm (scale (sq (stk x6 1)) (mm (tr (mat (φ := .f32) x4)) (mat (φ := .f32) x1))) (mat4 (φ := .f32) x10 0 1))) + (mm (mat (φ := .f32) x5) (mm (scale (stk x6 2) (mm (tr (mat (φ := .f32) x5)) (mat (φ := .f32) x1))) (mat4 (φ := .f32) x11 0 0) + mm (scale (sq (stk x6 2)) (mm (tr (mat (φ := .f32) x5)) (mat (φ := .f32) x1))) (mat4 (φ := .f32) x11 0 1))))) (mat3 (φ := .f32) x8 1))) 0 := (fill_zero _ _).symm
  rw [h0, paste_fill _ _ 0 0 rfl, paste_fill _ _ 1 256 rfl, paste_fill _ _ 2 512 rfl, paste_fill _ _ 3 768 rfl, paste_fill _ _ 4 1024 rfl, paste_fill _ _ 5 1280 rfl, paste_fill _ _ 6 1536 rfl, paste_fill _ _ 7 1792 rfl]
  exact fill_all _ _ 8 (by decide)

theorem w_r :
    mat (n := 2048) (m := 128) (φ := .f32) (kernelRun0_A.sl.r c arg0 harg0 x0)
      = mat (φ := .f32) x0 := by
  rw [kernelRun0_A.sl.r, mat_load]

theorem w_HS1_1 :
    left16 (n := 6144) (m := 128) (kernelRun0_A.sl.HS1_1 c arg1 harg1 arg8 harg8 x1 x8)
      = mm (mat (φ := .f32) x1) (mat3 (φ := .f32) x8 0) := by
  rw [kernelRun0_A.sl.HS1_1, left16_cons, paste_all, pay3, mat_load, face_load0]

theorem w_v100 :
    mat (n := 6144) (m := 128) (φ := .bf16) (kernelRun0_A.sl.v100 c arg1 harg1 arg8 harg8 arg20 x1 x8)
      = mm (mat (φ := .f32) x1) (mat3 (φ := .f32) x8 0) := by
  rw [kernelRun0_A.sl.v100, mat16_readCov, w_HS1_1, rowsAt_zero]

theorem w_r_10 :
    mat (n := 256) (m := 128) (φ := .f32) (kernelRun0_A.sl.r_10 c arg1 harg1 arg8 harg8 arg20 arg29 x1 x8 fh0)
      = mm (rowsAt (inc fh0) 1280 256) (mm (mat (φ := .f32) x1) (mat3 (φ := .f32) x8 0)) := by
  rw [kernelRun0_A.sl.r_10, pay31, w_v196, w_v100]

theorem w_HS3_8 :
    left32 (n := 2048) (m := 128) (kernelRun0_A.sl.HS3_8 c arg1 harg1 arg8 harg8 arg20 arg28 arg29 x1 x8 fh0)
      = mm (inc fh0) (mm (mat (φ := .f32) x1) (mat3 (φ := .f32) x8 0)) := by
  rw [kernelRun0_A.sl.HS3_8, left32_cons, left32_cons, left32_cons, left32_cons, left32_cons, left32_cons, left32_cons, left32_cons, pay39, pay35, pay32, pay28, pay25, pay21, pay18, pay15, w_v236, w_v100, w_v216, w_r_10, w_v176, w_v156, w_v136, w_r_7, w_v98]
  rw [mm_rowsAt, mm_rowsAt, mm_rowsAt, mm_rowsAt, mm_rowsAt, mm_rowsAt, mm_rowsAt, mm_rowsAt]
  have h0 : left32 (n := 2048) (m := 128) [] = fill (left32 (n := 2048) (m := 128) []) (mm (inc fh0) (mm (mat (φ := .f32) x1) (mat3 (φ := .f32) x8 0))) 0 := (fill_zero _ _).symm
  rw [h0, paste_fill _ _ 0 0 rfl, paste_fill _ _ 1 256 rfl, paste_fill _ _ 2 512 rfl, paste_fill _ _ 3 768 rfl, paste_fill _ _ 4 1024 rfl, paste_fill _ _ 5 1280 rfl, paste_fill _ _ 6 1536 rfl, paste_fill _ _ 7 1792 rfl]
  exact fill_all _ _ 8 (by decide)

theorem w_v616 :
    mat (n := 2048) (m := 128) (φ := .f32) (kernelRun0_A.sl.v616 c arg1 harg1 arg8 harg8 arg20 arg22 arg28 arg29 x1 x8 fh0)
      = mm (inc fh0) (mm (mat (φ := .f32) x1) (mat3 (φ := .f32) x8 0)) := by
  rw [kernelRun0_A.sl.v616, mat32_readCov, w_HS3_8, rowsAt_zero]

theorem w_HS6_1 :
    left16 (n := 256) (m := 128) (kernelRun0_A.sl.HS6_1 c arg0 harg0 arg3 harg3 arg6 harg6 arg7 harg7 x0 x3 x6 x7)
      = mm (scale (stk x6 0) (mm (tr (mat (φ := .f32) x3)) (mat (φ := .f32) x0))) (mat4 (φ := .f32) x7 0 1) + mm (scale (sq (stk x6 0)) (mm (tr (mat (φ := .f32) x3)) (mat (φ := .f32) x0))) (mat4 (φ := .f32) x7 0 2) := by
  rw [kernelRun0_A.sl.HS6_1, left16_cons, paste_all, pay10, w_r, mat_load, stalk_load0, face2_loadW01, face2_loadW02]

theorem w_v620 :
    mat (n := 256) (m := 128) (φ := .bf16) (kernelRun0_A.sl.v620 c arg0 harg0 arg3 harg3 arg6 harg6 arg7 harg7 arg25 x0 x3 x6 x7)
      = mm (scale (stk x6 0) (mm (tr (mat (φ := .f32) x3)) (mat (φ := .f32) x0))) (mat4 (φ := .f32) x7 0 1) + mm (scale (sq (stk x6 0)) (mm (tr (mat (φ := .f32) x3)) (mat (φ := .f32) x0))) (mat4 (φ := .f32) x7 0 2) := by
  rw [kernelRun0_A.sl.v620, mat16_readCov, w_HS6_1, rowsAt_zero]

theorem w_HS5_1 :
    left32 (n := 2048) (m := 128) (kernelRun0_A.sl.HS5_1 c arg0 harg0 arg1 harg1 arg3 harg3 arg6 harg6 arg7 harg7 arg8 harg8 arg20 arg22 arg25 arg28 arg29 x0 x1 x3 x6 x7 x8 fh0)
      = lgs (mm (mat (φ := .f32) x0) (mat4 (φ := .f32) x7 0 0) + mm (inc fh0) (mm (mat (φ := .f32) x1) (mat3 (φ := .f32) x8 0)) + (mm (mat (φ := .f32) x3) (mm (scale (stk x6 0) (mm (tr (mat (φ := .f32) x3)) (mat (φ := .f32) x0))) (mat4 (φ := .f32) x7 0 1) + mm (scale (sq (stk x6 0)) (mm (tr (mat (φ := .f32) x3)) (mat (φ := .f32) x0))) (mat4 (φ := .f32) x7 0 2)))) := by
  rw [kernelRun0_A.sl.HS5_1, left32_cons, paste_all, pay71, w_r, face2_loadW00, w_v616, mat_load, w_v620]

theorem w_v768 :
    mat (n := 2048) (m := 128) (φ := .f32) (kernelRun0_A.sl.v768 c arg0 harg0 arg1 harg1 arg3 harg3 arg6 harg6 arg7 harg7 arg8 harg8 arg20 arg22 arg24 arg25 arg28 arg29 x0 x1 x3 x6 x7 x8 fh0)
      = lgs (mm (mat (φ := .f32) x0) (mat4 (φ := .f32) x7 0 0) + mm (inc fh0) (mm (mat (φ := .f32) x1) (mat3 (φ := .f32) x8 0)) + (mm (mat (φ := .f32) x3) (mm (scale (stk x6 0) (mm (tr (mat (φ := .f32) x3)) (mat (φ := .f32) x0))) (mat4 (φ := .f32) x7 0 1) + mm (scale (sq (stk x6 0)) (mm (tr (mat (φ := .f32) x3)) (mat (φ := .f32) x0))) (mat4 (φ := .f32) x7 0 2)))) := by
  rw [kernelRun0_A.sl.v768, mat32_readCov, w_HS5_1, rowsAt_zero]

theorem w_v772 :
    mat (n := 2048) (m := 128) (φ := .f32) (kernelRun0_A.sl.v772 c arg0 harg0 arg1 harg1 arg2 harg2 arg4 harg4 arg5 harg5 arg6 harg6 arg8 harg8 arg9 harg9 arg10 harg10 arg11 harg11 arg12 harg12 arg13 harg13 arg19 arg20 arg21 arg23 arg26 arg27 arg28 arg29 arg30 arg31 x0 x1 x2 x4 x5 x6 x8 x9 x10 x11 x12 x13 fh0 fh1)
      = mm (inc fh0) (mm (lgs (mm (mat (φ := .f32) x1) (mat3 (φ := .f32) x9 0) + (mm (tr (inc fh0)) (mm (mat (φ := .f32) x0) (mat3 (φ := .f32) x12 0)) + mm (inc2 fh1) (mm (mat (φ := .f32) x2) (mat3 (φ := .f32) x13 0))) + (mm (mat (φ := .f32) x4) (mm (scale (stk x6 1) (mm (tr (mat (φ := .f32) x4)) (mat (φ := .f32) x1))) (mat4 (φ := .f32) x10 0 0) + mm (scale (sq (stk x6 1)) (mm (tr (mat (φ := .f32) x4)) (mat (φ := .f32) x1))) (mat4 (φ := .f32) x10 0 1))) + (mm (mat (φ := .f32) x5) (mm (scale (stk x6 2) (mm (tr (mat (φ := .f32) x5)) (mat (φ := .f32) x1))) (mat4 (φ := .f32) x11 0 0) + mm (scale (sq (stk x6 2)) (mm (tr (mat (φ := .f32) x5)) (mat (φ := .f32) x1))) (mat4 (φ := .f32) x11 0 1))))) (mat3 (φ := .f32) x8 1)) := by
  rw [kernelRun0_A.sl.v772, mat32_readCov, w_HS8_8, rowsAt_zero]

theorem w_r_20 :
    mat (n := 2048) (m := 128) (φ := .f32) (kernelRun0_A.sl.r_20 c arg0 harg0 arg1 harg1 arg2 harg2 arg3 harg3 arg4 harg4 arg5 harg5 arg6 harg6 arg7 harg7 arg8 harg8 arg9 harg9 arg10 harg10 arg11 harg11 arg12 harg12 arg13 harg13 arg19 arg20 arg21 arg22 arg23 arg24 arg25 arg26 arg27 arg28 arg29 arg30 arg31 x0 x1 x2 x3 x4 x5 x6 x7 x8 x9 x10 x11 x12 x13 fh0 fh1)
      = mm (lgs (mm (mat (φ := .f32) x0) (mat4 (φ := .f32) x7 0 0) + mm (inc fh0) (mm (mat (φ := .f32) x1) (mat3 (φ := .f32) x8 0)) + (mm (mat (φ := .f32) x3) (mm (scale (stk x6 0) (mm (tr (mat (φ := .f32) x3)) (mat (φ := .f32) x0))) (mat4 (φ := .f32) x7 0 1) + mm (scale (sq (stk x6 0)) (mm (tr (mat (φ := .f32) x3)) (mat (φ := .f32) x0))) (mat4 (φ := .f32) x7 0 2))))) (mat4 (φ := .f32) x7 1 0) + (mm (inc fh0) (mm (lgs (mm (mat (φ := .f32) x1) (mat3 (φ := .f32) x9 0) + (mm (tr (inc fh0)) (mm (mat (φ := .f32) x0) (mat3 (φ := .f32) x12 0)) + mm (inc2 fh1) (mm (mat (φ := .f32) x2) (mat3 (φ := .f32) x13 0))) + (mm (mat (φ := .f32) x4) (mm (scale (stk x6 1) (mm (tr (mat (φ := .f32) x4)) (mat (φ := .f32) x1))) (mat4 (φ := .f32) x10 0 0) + mm (scale (sq (stk x6 1)) (mm (tr (mat (φ := .f32) x4)) (mat (φ := .f32) x1))) (mat4 (φ := .f32) x10 0 1))) + (mm (mat (φ := .f32) x5) (mm (scale (stk x6 2) (mm (tr (mat (φ := .f32) x5)) (mat (φ := .f32) x1))) (mat4 (φ := .f32) x11 0 0) + mm (scale (sq (stk x6 2)) (mm (tr (mat (φ := .f32) x5)) (mat (φ := .f32) x1))) (mat4 (φ := .f32) x11 0 1))))) (mat3 (φ := .f32) x8 1))) := by
  rw [kernelRun0_A.sl.r_20, pay83, w_v768, face2_loadW10, w_v772]

theorem w_r_5 :
    col (kernelRun0_A.sl.r_5 c arg6 harg6 x6)
      = stk x6 0 := by
  rw [kernelRun0_A.sl.r_5, pay9, stalk_load0]

theorem w_r_17 :
    mat (n := 2048) (m := 128) (φ := .f32) (kernelRun0_A.sl.r_17 c arg0 harg0 arg1 harg1 arg3 harg3 arg6 harg6 arg7 harg7 arg8 harg8 arg20 arg22 arg25 arg28 arg29 x0 x1 x3 x6 x7 x8 fh0)
      = lgs (mm (mat (φ := .f32) x0) (mat4 (φ := .f32) x7 0 0) + mm (inc fh0) (mm (mat (φ := .f32) x1) (mat3 (φ := .f32) x8 0)) + (mm (mat (φ := .f32) x3) (mm (scale (stk x6 0) (mm (tr (mat (φ := .f32) x3)) (mat (φ := .f32) x0))) (mat4 (φ := .f32) x7 0 1) + mm (scale (sq (stk x6 0)) (mm (tr (mat (φ := .f32) x3)) (mat (φ := .f32) x0))) (mat4 (φ := .f32) x7 0 2)))) := by
  rw [kernelRun0_A.sl.r_17, pay70, w_r, face2_loadW00, w_v616, mat_load, w_v620]

theorem w_HS6_2 :
    left16 (n := 256) (m := 128) (kernelRun0_A.sl.HS6_2 c arg0 harg0 arg1 harg1 arg3 harg3 arg6 harg6 arg7 harg7 arg8 harg8 arg20 arg22 arg25 arg28 arg29 x0 x1 x3 x6 x7 x8 fh0)
      = mm (scale (stk x6 0) (mm (tr (mat (φ := .f32) x3)) (lgs (mm (mat (φ := .f32) x0) (mat4 (φ := .f32) x7 0 0) + mm (inc fh0) (mm (mat (φ := .f32) x1) (mat3 (φ := .f32) x8 0)) + (mm (mat (φ := .f32) x3) (mm (scale (stk x6 0) (mm (tr (mat (φ := .f32) x3)) (mat (φ := .f32) x0))) (mat4 (φ := .f32) x7 0 1) + mm (scale (sq (stk x6 0)) (mm (tr (mat (φ := .f32) x3)) (mat (φ := .f32) x0))) (mat4 (φ := .f32) x7 0 2))))))) (mat4 (φ := .f32) x7 1 1) + (mm (scale (sq (stk x6 0)) (mm (tr (mat (φ := .f32) x3)) (lgs (mm (mat (φ := .f32) x0) (mat4 (φ := .f32) x7 0 0) + mm (inc fh0) (mm (mat (φ := .f32) x1) (mat3 (φ := .f32) x8 0)) + (mm (mat (φ := .f32) x3) (mm (scale (stk x6 0) (mm (tr (mat (φ := .f32) x3)) (mat (φ := .f32) x0))) (mat4 (φ := .f32) x7 0 1) + mm (scale (sq (stk x6 0)) (mm (tr (mat (φ := .f32) x3)) (mat (φ := .f32) x0))) (mat4 (φ := .f32) x7 0 2))))))) (mat4 (φ := .f32) x7 1 2)) := by
  rw [kernelRun0_A.sl.HS6_2, left16_cons, paste_all, pay74, w_r_5, w_r_17, mat_load, face2_loadW11, face2_loadW12]

theorem w_v776 :
    mat (n := 256) (m := 128) (φ := .bf16) (kernelRun0_A.sl.v776 c arg0 harg0 arg1 harg1 arg3 harg3 arg6 harg6 arg7 harg7 arg8 harg8 arg20 arg22 arg25 arg28 arg29 x0 x1 x3 x6 x7 x8 fh0)
      = mm (scale (stk x6 0) (mm (tr (mat (φ := .f32) x3)) (lgs (mm (mat (φ := .f32) x0) (mat4 (φ := .f32) x7 0 0) + mm (inc fh0) (mm (mat (φ := .f32) x1) (mat3 (φ := .f32) x8 0)) + (mm (mat (φ := .f32) x3) (mm (scale (stk x6 0) (mm (tr (mat (φ := .f32) x3)) (mat (φ := .f32) x0))) (mat4 (φ := .f32) x7 0 1) + mm (scale (sq (stk x6 0)) (mm (tr (mat (φ := .f32) x3)) (mat (φ := .f32) x0))) (mat4 (φ := .f32) x7 0 2))))))) (mat4 (φ := .f32) x7 1 1) + (mm (scale (sq (stk x6 0)) (mm (tr (mat (φ := .f32) x3)) (lgs (mm (mat (φ := .f32) x0) (mat4 (φ := .f32) x7 0 0) + mm (inc fh0) (mm (mat (φ := .f32) x1) (mat3 (φ := .f32) x8 0)) + (mm (mat (φ := .f32) x3) (mm (scale (stk x6 0) (mm (tr (mat (φ := .f32) x3)) (mat (φ := .f32) x0))) (mat4 (φ := .f32) x7 0 1) + mm (scale (sq (stk x6 0)) (mm (tr (mat (φ := .f32) x3)) (mat (φ := .f32) x0))) (mat4 (φ := .f32) x7 0 2))))))) (mat4 (φ := .f32) x7 1 2)) := by
  rw [kernelRun0_A.sl.v776, mat16_readCov, w_HS6_2, rowsAt_zero]

theorem w_r_21 :
    mat (n := 2048) (m := 128) (φ := .f32) (kernelRun0_A.sl.r_21 c arg0 harg0 arg1 harg1 arg3 harg3 arg6 harg6 arg7 harg7 arg8 harg8 arg20 arg22 arg25 arg28 arg29 x0 x1 x3 x6 x7 x8 fh0)
      = mm (mat (φ := .f32) x3) (mm (scale (stk x6 0) (mm (tr (mat (φ := .f32) x3)) (lgs (mm (mat (φ := .f32) x0) (mat4 (φ := .f32) x7 0 0) + mm (inc fh0) (mm (mat (φ := .f32) x1) (mat3 (φ := .f32) x8 0)) + (mm (mat (φ := .f32) x3) (mm (scale (stk x6 0) (mm (tr (mat (φ := .f32) x3)) (mat (φ := .f32) x0))) (mat4 (φ := .f32) x7 0 1) + mm (scale (sq (stk x6 0)) (mm (tr (mat (φ := .f32) x3)) (mat (φ := .f32) x0))) (mat4 (φ := .f32) x7 0 2))))))) (mat4 (φ := .f32) x7 1 1) + (mm (scale (sq (stk x6 0)) (mm (tr (mat (φ := .f32) x3)) (lgs (mm (mat (φ := .f32) x0) (mat4 (φ := .f32) x7 0 0) + mm (inc fh0) (mm (mat (φ := .f32) x1) (mat3 (φ := .f32) x8 0)) + (mm (mat (φ := .f32) x3) (mm (scale (stk x6 0) (mm (tr (mat (φ := .f32) x3)) (mat (φ := .f32) x0))) (mat4 (φ := .f32) x7 0 1) + mm (scale (sq (stk x6 0)) (mm (tr (mat (φ := .f32) x3)) (mat (φ := .f32) x0))) (mat4 (φ := .f32) x7 0 2))))))) (mat4 (φ := .f32) x7 1 2))) := by
  rw [kernelRun0_A.sl.r_21, pay84, mat_load, w_v776]

end Cert.Net.Ker

end

end
-- ==== Proof.Out.lean ====
/- What the kernel leaves in its output window: the logits, as the network's function of its windows. -/
module

public import proofs.«01_k».proof.Proof.Ker
public import proofs.«01_k».proof.Proof.Net
public import proofs.«01_k».proof.Proof.Gen.KernelIdeal.Value

@[expose] public section

set_option maxRecDepth 16384

noncomputable section

namespace Cert.Net.Ker

open Idealize.ShloMosaic Idealize.ShloMosaic.TcCoe Cert.KernelIdeal Cert.KernelIdeal.Gen

/-- The network's arguments, as the kernel's windows hold them. -/
def windows {c : Dev nD} (x0 : Vec Ideal S2048x128 .f32) (x1 : Vec Ideal S6144x128 .f32) (x2 : Vec Ideal S4096x128 .f32)
    (x3 : Vec Ideal S2048x256 .f32) (x4 : Vec Ideal S6144x256 .f32) (x5 : Vec Ideal S6144x256 .f32)
    (x6 : Vec Ideal S3x256x1 .f32) (x7 : Vec Ideal S2x3x128x128 .f32) (x8 : Vec Ideal S2x128x128 .f32)
    (x9 : Vec Ideal S2x128x128 .f32) (x10 : Vec Ideal S2x2x128x128 .f32) (x11 : Vec Ideal S2x2x128x128 .f32)
    (x12 : Vec Ideal S2x128x128 .f32) (x13 : Vec Ideal S2x128x128 .f32) (x14 : Vec Ideal S128x9 .f32)
    (x15 : Vec Ideal S9 .f32) (fh0 : HbBuf0 (F := Ideal) c hbM0_0) (fh1 : HbBuf0 (F := Ideal) c hbM0_1) : Inputs where
  x0 := mat (φ := .f32) x0
  x1 := mat (φ := .f32) x1
  x2 := mat (φ := .f32) x2
  e := stk x6 0
  E := mat (φ := .f32) x3
  d := stk x6 1
  D := mat (φ := .f32) x4
  u := stk x6 2
  U := mat (φ := .f32) x5
  B := inc fh0
  C := inc2 fh1
  W0 := fun p q => mat4 (φ := .f32) x7 p q
  W10 := fun p => mat3 (φ := .f32) x8 p
  W1id := fun p => mat3 (φ := .f32) x9 p
  W1d := fun p q => mat4 (φ := .f32) x10 p q
  W1u := fun p q => mat4 (φ := .f32) x11 p q
  W01 := fun p => mat3 (φ := .f32) x12 p
  W21 := fun p => mat3 (φ := .f32) x13 p
  Wout := mat (φ := .f32) x14
  bout := vec (φ := .f32) x15

variable (c : Dev nD) (arg0 : Memref sig .tc .vmem S2048x128 .f32) (harg0 : arg0.IsWhole)
    (arg1 : Memref sig .tc .vmem S6144x128 .f32) (harg1 : arg1.IsWhole) (arg2 : Memref sig .tc .vmem S4096x128 .f32)
    (harg2 : arg2.IsWhole) (arg3 : Memref sig .tc .vmem S2048x256 .f32) (harg3 : arg3.IsWhole)
    (arg4 : Memref sig .tc .vmem S6144x256 .f32) (harg4 : arg4.IsWhole) (arg5 : Memref sig .tc .vmem S6144x256 .f32)
    (harg5 : arg5.IsWhole) (arg6 : Memref sig .tc .vmem S3x256x1 .f32) (harg6 : arg6.IsWhole)
    (arg7 : Memref sig .tc .vmem S2x3x128x128 .f32) (harg7 : arg7.IsWhole) (arg8 : Memref sig .tc .vmem S2x128x128 .f32)
    (harg8 : arg8.IsWhole) (arg9 : Memref sig .tc .vmem S2x128x128 .f32) (harg9 : arg9.IsWhole)
    (arg10 : Memref sig .tc .vmem S2x2x128x128 .f32) (harg10 : arg10.IsWhole) (arg11 : Memref sig .tc .vmem S2x2x128x128 .f32)
    (harg11 : arg11.IsWhole) (arg12 : Memref sig .tc .vmem S2x128x128 .f32) (harg12 : arg12.IsWhole)
    (arg13 : Memref sig .tc .vmem S2x128x128 .f32) (harg13 : arg13.IsWhole) (arg14 : Memref sig .tc .vmem S128x9 .f32)
    (harg14 : arg14.IsWhole) (arg15 : Memref sig .tc .vmem S9 .f32) (harg15 : arg15.IsWhole)
    (arg18 : Memref sig .tc .vmem S2048x9 .f32) (harg18 : arg18.IsWhole) (arg19 : Memref sig .tc .vmem S2048x128 .bf16)
    (harg19 : arg19.IsWhole) (arg20 : Memref sig .tc .vmem S6144x128 .bf16) (harg20 : arg20.IsWhole)
    (arg21 : Memref sig .tc .vmem S4096x128 .bf16) (harg21 : arg21.IsWhole) (arg22 : Memref sig .tc .vmem S2048x128 .f32)
    (harg22 : arg22.IsWhole) (arg23 : Memref sig .tc .vmem S6144x128 .f32) (harg23 : arg23.IsWhole)
    (arg24 : Memref sig .tc .vmem S2048x128 .f32) (harg24 : arg24.IsWhole) (arg25 : Memref sig .tc .vmem S256x128 .bf16)
    (harg25 : arg25.IsWhole) (arg26 : Memref sig .tc .vmem S512x128 .bf16) (harg26 : arg26.IsWhole)
    (arg27 : Memref sig .tc .vmem S2048x128 .f32) (harg27 : arg27.IsWhole) (arg28 : Memref sig .tc .vmem S256x6144 .f32)
    (harg28 : arg28.IsWhole) (arg29 : Memref sig .tc .vmem S256x6144 .f32) (harg29 : arg29.IsWhole)
    (arg30 : Memref sig .tc .vmem S256x4096 .f32) (harg30 : arg30.IsWhole) (arg31 : Memref sig .tc .vmem S256x4096 .f32)
    (harg31 : arg31.IsWhole) (x0 : Vec Ideal S2048x128 .f32) (x1 : Vec Ideal S6144x128 .f32) (x2 : Vec Ideal S4096x128 .f32)
    (x3 : Vec Ideal S2048x256 .f32) (x4 : Vec Ideal S6144x256 .f32) (x5 : Vec Ideal S6144x256 .f32)
    (x6 : Vec Ideal S3x256x1 .f32) (x7 : Vec Ideal S2x3x128x128 .f32) (x8 : Vec Ideal S2x128x128 .f32)
    (x9 : Vec Ideal S2x128x128 .f32) (x10 : Vec Ideal S2x2x128x128 .f32) (x11 : Vec Ideal S2x2x128x128 .f32)
    (x12 : Vec Ideal S2x128x128 .f32) (x13 : Vec Ideal S2x128x128 .f32) (x14 : Vec Ideal S128x9 .f32)
    (x15 : Vec Ideal S9 .f32) (fh0 : HbBuf0 (F := Ideal) c hbM0_0) (fh1 : HbBuf0 (F := Ideal) c hbM0_1)

/-- What the run leaves in the output window is the kernel's logits of the windows. -/
theorem out_eq :
    mat (n := 2048) (m := 9) (φ := .f32) (out0_A_16 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 fh0 fh1)
      = (windows x0 x1 x2 x3 x4 x5 x6 x7 x8 x9 x10 x11 x12 x13 x14 x15 fh0 fh1).kerOut := by
  unfold out0_A_16
  rw [View.read_writes_junk_eq_canon]
  show left32 _ = _
  rw [kernelRun0_A]
  dsimp only
  rw [left32_cons, paste_all, pay1, w_r_20, w_r_21, mat_load, vec_load]
  rfl

end Cert.Net.Ker

end

end
-- ==== Proof.Final.lean ====
/- The kernel's result array, as the network's function of the arguments at launch. -/
module

public import proofs.«01_k».proof.Proof.Out
public import Idealize.ShloMosaic.Lib.Pipeline.ValueKit.Point
public import Idealize.ShloMosaic.Lib.Claim

@[expose] public section

set_option maxRecDepth 16384

noncomputable section

namespace Cert.Net.Ker

open Idealize.ShloMosaic Idealize.ShloMosaic.TcCoe Cert.KernelIdeal Cert.KernelIdeal.Gen

variable (m : (ℓ : Loc nD τ sig) → Buf (Elt Ideal) ℓ) (c : Dev nD)

/-! Each window has one block, which is its whole array. -/

theorem at0 : win0_0.index t0_0 = fun _ => 0 := rfl

theorem block0 : iblk m c 0 t0_0 = m ((c : Thread nD τ).loc main_arg0) := by
  blk_ext! [iblk, V, at0]

theorem at1 : win0_1.index t0_0 = fun _ => 0 := rfl

theorem block1 : iblk m c 1 t0_0 = m ((c : Thread nD τ).loc main_arg1) := by
  blk_ext! [iblk, V, at1]

theorem at2 : win0_2.index t0_0 = fun _ => 0 := rfl

theorem block2 : iblk m c 2 t0_0 = m ((c : Thread nD τ).loc main_arg2) := by
  blk_ext! [iblk, V, at2]

theorem at3 : win0_3.index t0_0 = fun _ => 0 := rfl

theorem block3 : iblk m c 3 t0_0 = m ((c : Thread nD τ).loc main_arg4) := by
  blk_ext! [iblk, V, at3]

theorem at4 : win0_4.index t0_0 = fun _ => 0 := rfl

theorem block4 : iblk m c 4 t0_0 = m ((c : Thread nD τ).loc main_arg6) := by
  blk_ext! [iblk, V, at4]

theorem at5 : win0_5.index t0_0 = fun _ => 0 := rfl

theorem block5 : iblk m c 5 t0_0 = m ((c : Thread nD τ).loc main_arg8) := by
  blk_ext! [iblk, V, at5]

theorem at7 : win0_7.index t0_0 = fun _ => 0 := rfl

theorem block7 : iblk m c 7 t0_0 = m ((c : Thread nD τ).loc main_arg15) := by
  blk_ext! [iblk, V, at7]

theorem at8 : win0_8.index t0_0 = fun _ => 0 := rfl

theorem block8 : iblk m c 8 t0_0 = m ((c : Thread nD τ).loc main_arg16) := by
  blk_ext! [iblk, V, at8]

theorem at9 : win0_9.index t0_0 = fun _ => 0 := rfl

theorem block9 : iblk m c 9 t0_0 = m ((c : Thread nD τ).loc main_arg17) := by
  blk_ext! [iblk, V, at9]

theorem at10 : win0_10.index t0_0 = fun _ => 0 := rfl

theorem block10 : iblk m c 10 t0_0 = m ((c : Thread nD τ).loc main_arg18) := by
  blk_ext! [iblk, V, at10]

theorem at11 : win0_11.index t0_0 = fun _ => 0 := rfl

theorem block11 : iblk m c 11 t0_0 = m ((c : Thread nD τ).loc main_arg19) := by
  blk_ext! [iblk, V, at11]

theorem at12 : win0_12.index t0_0 = fun _ => 0 := rfl

theorem block12 : iblk m c 12 t0_0 = m ((c : Thread nD τ).loc main_arg20) := by
  blk_ext! [iblk, V, at12]

theorem at13 : win0_13.index t0_0 = fun _ => 0 := rfl

theorem block13 : iblk m c 13 t0_0 = m ((c : Thread nD τ).loc main_arg21) := by
  blk_ext! [iblk, V, at13]

theorem at14 : win0_14.index t0_0 = fun _ => 0 := rfl

theorem block14 : iblk m c 14 t0_0 = m ((c : Thread nD τ).loc main_arg26) := by
  blk_ext! [iblk, V, at14]

theorem at15 : win0_15.index t0_0 = fun _ => 0 := rfl

theorem block15 : iblk m c 15 t0_0 = m ((c : Thread nD τ).loc main_arg27) := by
  blk_ext! [iblk, V, at15]

theorem at6 : win0_6.index t0_0 = fun _ => 0 := rfl

theorem block6 : iblk m c 6 t0_0 = V m c main_v4 := by
  blk_ext! [iblk, at6]

/-! The three families of eigenvalues reach the kernel stacked. -/

/-- The families as the host lays them out: one below the other, then as columns. -/
def stacked (a b d : FVec Ideal S256 .f32) : FVec Ideal S3x256x1 .f32 :=
  shapeCast S3x256x1 (concatenate S3x256 0 [⟨S1x256, broadcastInDim S1x256 ![1] bcast_S256_S1x256_1 a⟩,
    ⟨S1x256, broadcastInDim S1x256 ![1] bcast_S256_S1x256_1 b⟩, ⟨S1x256, broadcastInDim S1x256 ![1] bcast_S256_S1x256_1 d⟩]
    concatenates_S1x256_S1x256_S1x256_S3x256_d0) shapeCasts_S3x256_S3x256x1

/-- What the host leaves in the stack. -/
theorem after_host (F : Valuation τ sig (Elt Ideal)) :
    StableHlo.after hostOps0 F (Proc.devRef .tc main_v4)
      = stacked (F (Proc.devRef .tc main_arg3)) (F (Proc.devRef .tc main_arg5)) (F (Proc.devRef .tc main_arg7)) := by
  unfold hostOps0
  simp only [StableHlo.after_cons, StableHlo.after_nil]
  rw [StableHlo.reshape_result, StableHlo.nary_result]
  unfold stacked
  congr 2

theorem stk0 (a b d : FVec Ideal S256 .f32) : stk (stacked a b d) 0 = vec a := by
  funext i
  unfold stk vec stacked
  pointwise

theorem stk1 (a b d : FVec Ideal S256 .f32) : stk (stacked a b d) 1 = vec b := by
  funext i
  unfold stk vec stacked
  pointwise

theorem stk2 (a b d : FVec Ideal S256 .f32) : stk (stacked a b d) 2 = vec d := by
  funext i
  unfold stk vec stacked
  pointwise

theorem stack_eq : (V m c main_v4 : FVec Ideal S3x256x1 .f32)
    = stacked (m ((c : Thread nD τ).loc main_arg3)) (m ((c : Thread nD τ).loc main_arg5)) (m ((c : Thread nD τ).loc main_arg7)) :=
  after_host _

/-- The network's arguments, as the kernel finds them at launch. -/
def inputs : Inputs where
  x0 := mat (φ := .f32) (n := 2048) (m := 128) (m ((c : Thread nD τ).loc main_arg0))
  x1 := mat (φ := .f32) (n := 6144) (m := 128) (m ((c : Thread nD τ).loc main_arg1))
  x2 := mat (φ := .f32) (n := 4096) (m := 128) (m ((c : Thread nD τ).loc main_arg2))
  e := vec (φ := .f32) (n := 256) (m ((c : Thread nD τ).loc main_arg3))
  E := mat (φ := .f32) (n := 2048) (m := 256) (m ((c : Thread nD τ).loc main_arg4))
  d := vec (φ := .f32) (n := 256) (m ((c : Thread nD τ).loc main_arg5))
  D := mat (φ := .f32) (n := 6144) (m := 256) (m ((c : Thread nD τ).loc main_arg6))
  u := vec (φ := .f32) (n := 256) (m ((c : Thread nD τ).loc main_arg7))
  U := mat (φ := .f32) (n := 6144) (m := 256) (m ((c : Thread nD τ).loc main_arg8))
  B := mat (φ := .f32) (n := 2048) (m := 6144) (m ((c : Thread nD τ).loc main_arg13))
  C := mat (φ := .f32) (n := 6144) (m := 4096) (m ((c : Thread nD τ).loc main_arg14))
  W0 := fun p q => mat4 (φ := .f32) (a := 2) (b := 3) (n := 128) (m := 128) (m ((c : Thread nD τ).loc main_arg15)) p q
  W10 := fun p => mat3 (φ := .f32) (a := 2) (n := 128) (m := 128) (m ((c : Thread nD τ).loc main_arg16)) p
  W1id := fun p => mat3 (φ := .f32) (a := 2) (n := 128) (m := 128) (m ((c : Thread nD τ).loc main_arg17)) p
  W1d := fun p q => mat4 (φ := .f32) (a := 2) (b := 2) (n := 128) (m := 128) (m ((c : Thread nD τ).loc main_arg18)) p q
  W1u := fun p q => mat4 (φ := .f32) (a := 2) (b := 2) (n := 128) (m := 128) (m ((c : Thread nD τ).loc main_arg19)) p q
  W01 := fun p => mat3 (φ := .f32) (a := 2) (n := 128) (m := 128) (m ((c : Thread nD τ).loc main_arg20)) p
  W21 := fun p => mat3 (φ := .f32) (a := 2) (n := 128) (m := 128) (m ((c : Thread nD τ).loc main_arg21)) p
  Wout := mat (φ := .f32) (n := 128) (m := 9) (m ((c : Thread nD τ).loc main_arg26))
  bout := vec (φ := .f32) (n := 9) (m ((c : Thread nD τ).loc main_arg27))

/-- The windows hold the network's arguments. -/
theorem windows_eq :
    windows (c := c) (iblk m c 0 t0_0) (iblk m c 1 t0_0) (iblk m c 2 t0_0) (iblk m c 3 t0_0) (iblk m c 4 t0_0) (iblk m c 5 t0_0)
      (iblk m c 6 t0_0) (iblk m c 7 t0_0) (iblk m c 8 t0_0) (iblk m c 9 t0_0) (iblk m c 10 t0_0) (iblk m c 11 t0_0)
      (iblk m c 12 t0_0) (iblk m c 13 t0_0) (iblk m c 14 t0_0) (iblk m c 15 t0_0) (V m c main_arg13) (V m c main_arg14)
      = inputs m c := by
  rw [block0, block1, block2, block3, block4, block5, block6, block7, block8, block9, block10, block11, block12, block13,
    block14, block15, V_main_arg13, V_main_arg14]
  unfold windows inputs
  rw [stack_eq, stk0, stk1, stk2]
  rfl

/-- What the run leaves in the output window's buffer. -/
theorem outs_eq : mat (n := 2048) (m := 9) (φ := .f32) (outsAt0 m c t0_0) = (inputs m c).kerOut := by
  unfold outsAt0
  rw [out_eq, windows_eq]

theorem at16 : win0_16.index t0_0 = fun _ => 0 := rfl

/-- The result array after the run is what the run leaves in the output window's buffer. -/
theorem final : (dats m 0 c).arrAt 16 cfg0.N = outsAt0 m c t0_0 := by
  refine (dats m 0 c).arrAt_eq_of_after_last 16 t0_0 (by decide +kernel) _ fun j => ?_
  blk_simp
  rw [after0_16]

/-- The result array holds the kernel's logits of the arguments at launch. -/
theorem result : mat (n := 2048) (m := 9) (φ := .f32) ((dats m 0 c).arrAt 16 cfg0.N) = (inputs m c).kerOut := by
  rw [final, outs_eq]

end Cert.Net.Ker

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Pre
public import proofs.«01_k».proof.Proof.Ref
public import proofs.«01_k».proof.Proof.Final
public import Idealize.ShloMosaic.Lib.Quiescent
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Net

/-- The dimensions the precondition states fit together. -/
instance preFacts : Cert.Pre_finite.Facts := Cert.Net.Pre.facts

/-- Under the precondition the arguments whose products the kernel regroups are real numbers. -/
theorem finite_of_pre (m : (ℓ : Loc Cert.KernelIdeal.nD Cert.KernelIdeal.τ Cert.KernelIdeal.sig) → Buf (Elt Ideal) ℓ)
    (h : Pre_KernelIdeal_finite m) (c : Dev Cert.KernelIdeal.nD) : (Ker.inputs m c).Finite := by
  obtain ⟨h0, h1, h2, h3, h4, h5, h6, h7, h8, h13, h14, h15, h16, h18, h19, h20, h21⟩ := Cert.Net.Pre.decode _ _ _ _ _ _ _ _ _ _ _ _ _ _ _ _ _ _ _ _ _ _ _ _ _ _ _ _ (h c)
  exact {
    x0 := fun i j => h0 (ix2 i j)
    x1 := fun i j => h1 (ix2 i j)
    x2 := fun i j => h2 (ix2 i j)
    e := fun i => h3 (ix1 i)
    E := fun i j => h4 (ix2 i j)
    d := fun i => h5 (ix1 i)
    D := fun i j => h6 (ix2 i j)
    u := fun i => h7 (ix1 i)
    U := fun i j => h8 (ix2 i j)
    B := fun i j => h13 (ix2 i j)
    C := fun i j => h14 (ix2 i j)
    W01' := (Cert.Net.Pre.weight0 _ h15 0).1
    W02' := (Cert.Net.Pre.weight0 _ h15 0).2
    W11' := (Cert.Net.Pre.weight0 _ h15 1).1
    W12' := (Cert.Net.Pre.weight0 _ h15 1).2
    W10 := fun p i j => h16 (ix3 p i j)
    W1d := fun q => Cert.Net.Pre.weight4 _ h18 q
    W1u := fun q => Cert.Net.Pre.weight4 _ h19 q
    W01 := Cert.Net.Pre.weight3 _ h20
    W21 := Cert.Net.Pre.weight3 _ h21 }

/-- The kernel runs, keeps its arguments and leaves every counter at zero. -/
theorem frame_kernel : Cert.quiescent_Kernel (hKernel := Cert.Kernel.Gen.facts) := fun m ρ _ => Cert.Kernel.Gen.frame m ρ

/-- So does the ideal kernel. -/
theorem frame_ideal : Cert.quiescent_KernelIdeal (hKernelIdeal := Cert.KernelIdeal.Gen.facts) :=
  fun m ρ _ => Cert.KernelIdeal.Gen.frame m ρ

/-- So does the ideal reference, which has no counter. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Memories that agree on the arguments hold the same network arguments. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (g6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (g7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (g8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (g13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (g14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (g15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (g16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (g17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (g18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (g19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (g20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (g21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (g26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (g27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) :
    Ref.inputs (StableHlo.launchContents m' c) = Ker.inputs m c := by
  unfold Ref.inputs Ker.inputs
  rw [Inputs.mk.injEq]
  exact ⟨congrArg (mat (φ := .f32) (n := 2048) (m := 128)) g0,
    congrArg (mat (φ := .f32) (n := 6144) (m := 128)) g1,
    congrArg (mat (φ := .f32) (n := 4096) (m := 128)) g2,
    congrArg (vec (φ := .f32) (n := 256)) g3,
    congrArg (mat (φ := .f32) (n := 2048) (m := 256)) g4,
    congrArg (vec (φ := .f32) (n := 256)) g5,
    congrArg (mat (φ := .f32) (n := 6144) (m := 256)) g6,
    congrArg (vec (φ := .f32) (n := 256)) g7,
    congrArg (mat (φ := .f32) (n := 6144) (m := 256)) g8,
    congrArg (mat (φ := .f32) (n := 2048) (m := 6144)) g13,
    congrArg (mat (φ := .f32) (n := 6144) (m := 4096)) g14,
    congrArg (fun x p q => mat4 (φ := .f32) (a := 2) (b := 3) (n := 128) (m := 128) x p q) g15,
    congrArg (fun x p => mat3 (φ := .f32) (a := 2) (n := 128) (m := 128) x p) g16,
    congrArg (fun x p => mat3 (φ := .f32) (a := 2) (n := 128) (m := 128) x p) g17,
    congrArg (fun x p q => mat4 (φ := .f32) (a := 2) (b := 2) (n := 128) (m := 128) x p q) g18,
    congrArg (fun x p q => mat4 (φ := .f32) (a := 2) (b := 2) (n := 128) (m := 128) x p q) g19,
    congrArg (fun x p => mat3 (φ := .f32) (a := 2) (n := 128) (m := 128) x p) g20,
    congrArg (fun x p => mat3 (φ := .f32) (a := 2) (n := 128) (m := 128) x p) g21,
    congrArg (mat (φ := .f32) (n := 128) (m := 9)) g26,
    congrArg (vec (φ := .f32) (n := 9)) g27⟩

/-- On finite data the logits of the ideal kernel are those of the ideal reference. -/
theorem algebraic : Cert.algebraic_KernelIdeal_ReferenceIdeal_pre_finite (hKernelIdeal := Cert.KernelIdeal.Gen.facts)
    (hReferenceIdeal := Cert.ReferenceIdeal.Gen.facts) := by
  intro m g m' g' hpre hagree
  refine ⟨fun c => (Cert.KernelIdeal.Gen.dats m 0 c).arrAt 16 Cert.KernelIdeal.cfg0.N, Cert.KernelIdeal.Value.run_blocks m g,
    (θ_run Cert.ReferenceIdeal.defs _ _).mono (fun r h c => ⟨(h c).1.trans ?_, (h c).2⟩)
      (Cert.ReferenceIdeal.Value.run (F := Ideal) m' g')⟩
  refine (Cert.ReferenceIdeal.Value.val6_main_v311 (StableHlo.launchContents m' c)).symm.trans ?_
  refine mat_ext (φ := .f32) (n := 2048) (m := 9) ?_
  obtain ⟨g0, g1, g2, g3, g4, g5, g6, g7, g8, g9, g10, g11, g12, g13, g14, g15, g16, g17, g18, g19, g20, g21, g22, g23, g24, g25, g26, g27⟩ := hagree c
  rw [Ref.result, inputs_eq m m' c g0 g1 g2 g3 g4 g5 g6 g7 g8 g13 g14 g15 g16 g17 g18 g19 g20 g21 g26 g27]
  exact ((Ker.result m c).trans (Inputs.kerOut_eq _ (finite_of_pre m hpre c))).symm

/-- Everything claimed. -/
theorem claim : Cert.Claim :=
  ⟨Cert.Kernel.Gen.facts, Cert.KernelIdeal.Gen.facts, Cert.ReferenceIdeal.Gen.facts, preFacts,
    frame_kernel, frame_ideal, fun m ρ _ => frame_ideal m ρ trivial, frame_reference, fun m ρ _ => frame_reference m ρ trivial,
    trivial, algebraic⟩

end Cert.Proof

end
